-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ConvFfn (m : (ℓ : Loc Cert.ConvFfn.nD Cert.ConvFfn.τ Cert.ConvFfn.sig) → Buf (Elt Bits) ℓ) : Prop :=
  True

def Pre_ConvFfnIdeal (m : (ℓ : Loc Cert.ConvFfnIdeal.nD Cert.ConvFfnIdeal.τ Cert.ConvFfnIdeal.sig) → Buf (Elt Ideal) ℓ) : Prop :=
  True

def Pre_ConvFfnRefIdeal (m : (ℓ : Loc Cert.ConvFfnRefIdeal.nD Cert.ConvFfnRefIdeal.τ Cert.ConvFfnRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Dilated (m : (ℓ : Loc Cert.Dilated.nD Cert.Dilated.τ Cert.Dilated.sig) → Buf (Elt Bits) ℓ) : Prop :=
  True

def Pre_DilatedIdeal (m : (ℓ : Loc Cert.DilatedIdeal.nD Cert.DilatedIdeal.τ Cert.DilatedIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_ConvFfn [hConvFfn : Cert.ConvFfn.Facts] : Prop :=
  ∀ (m : (ℓ : Loc Cert.ConvFfn.nD Cert.ConvFfn.τ Cert.ConvFfn.sig) → Buf (Elt Bits) ℓ) (g : Dev Cert.ConvFfn.nD → PrngReg), Pre_ConvFfn m →
    θ_run (Cert.ConvFfn.defs (F := Bits)) (onTc (τ := Cert.ConvFfn.τ) (Cert.ConvFfn.main (F := Bits))) ⟨m, fun _ => 0, g⟩ (fun r => (∀ c : Dev Cert.ConvFfn.nD,
      r.2.mem ((c.tc : Thread Cert.ConvFfn.nD Cert.ConvFfn.τ).loc Cert.ConvFfn.main_arg0) = m ((c.tc : Thread Cert.ConvFfn.nD Cert.ConvFfn.τ).loc Cert.ConvFfn.main_arg0)
      ∧ r.2.mem ((c.tc : Thread Cert.ConvFfn.nD Cert.ConvFfn.τ).loc Cert.ConvFfn.main_arg1) = m ((c.tc : Thread Cert.ConvFfn.nD Cert.ConvFfn.τ).loc Cert.ConvFfn.main_arg1)
      ∧ r.2.mem ((c.tc : Thread Cert.ConvFfn.nD Cert.ConvFfn.τ).loc Cert.ConvFfn.main_arg2) = m ((c.tc : Thread Cert.ConvFfn.nD Cert.ConvFfn.τ).loc Cert.ConvFfn.main_arg2)
      ∧ r.2.mem ((c.tc : Thread Cert.ConvFfn.nD Cert.ConvFfn.τ).loc Cert.ConvFfn.main_arg3) = m ((c.tc : Thread Cert.ConvFfn.nD Cert.ConvFfn.τ).loc Cert.ConvFfn.main_arg3)
      ∧ r.2.mem ((c.tc : Thread Cert.ConvFfn.nD Cert.ConvFfn.τ).loc Cert.ConvFfn.main_arg4) = m ((c.tc : Thread Cert.ConvFfn.nD Cert.ConvFfn.τ).loc Cert.ConvFfn.main_arg4)
      ∧ r.2.mem ((c.tc : Thread Cert.ConvFfn.nD Cert.ConvFfn.τ).loc Cert.ConvFfn.main_arg5) = m ((c.tc : Thread Cert.ConvFfn.nD Cert.ConvFfn.τ).loc Cert.ConvFfn.main_arg5))
      ∧ r.2.sem = fun _ => 0)

def quiescent_ConvFfnIdeal [hConvFfnIdeal : Cert.ConvFfnIdeal.Facts] : Prop :=
  ∀ (m : (ℓ : Loc Cert.ConvFfnIdeal.nD Cert.ConvFfnIdeal.τ Cert.ConvFfnIdeal.sig) → Buf (Elt Ideal) ℓ) (g : Dev Cert.ConvFfnIdeal.nD → PrngReg), Pre_ConvFfnIdeal m →
    θ_run (Cert.ConvFfnIdeal.defs (F := Ideal)) (onTc (τ := Cert.ConvFfnIdeal.τ) (Cert.ConvFfnIdeal.main (F := Ideal))) ⟨m, fun _ => 0, g⟩ (fun r => (∀ c : Dev Cert.ConvFfnIdeal.nD,
      r.2.mem ((c.tc : Thread Cert.ConvFfnIdeal.nD Cert.ConvFfnIdeal.τ).loc Cert.ConvFfnIdeal.main_arg0) = m ((c.tc : Thread Cert.ConvFfnIdeal.nD Cert.ConvFfnIdeal.τ).loc Cert.ConvFfnIdeal.main_arg0)
      ∧ r.2.mem ((c.tc : Thread Cert.ConvFfnIdeal.nD Cert.ConvFfnIdeal.τ).loc Cert.ConvFfnIdeal.main_arg1) = m ((c.tc : Thread Cert.ConvFfnIdeal.nD Cert.ConvFfnIdeal.τ).loc Cert.ConvFfnIdeal.main_arg1)
      ∧ r.2.mem ((c.tc : Thread Cert.ConvFfnIdeal.nD Cert.ConvFfnIdeal.τ).loc Cert.ConvFfnIdeal.main_arg2) = m ((c.tc : Thread Cert.ConvFfnIdeal.nD Cert.ConvFfnIdeal.τ).loc Cert.ConvFfnIdeal.main_arg2)
      ∧ r.2.mem ((c.tc : Thread Cert.ConvFfnIdeal.nD Cert.ConvFfnIdeal.τ).loc Cert.ConvFfnIdeal.main_arg3) = m ((c.tc : Thread Cert.ConvFfnIdeal.nD Cert.ConvFfnIdeal.τ).loc Cert.ConvFfnIdeal.main_arg3)
      ∧ r.2.mem ((c.tc : Thread Cert.ConvFfnIdeal.nD Cert.ConvFfnIdeal.τ).loc Cert.ConvFfnIdeal.main_arg4) = m ((c.tc : Thread Cert.ConvFfnIdeal.nD Cert.ConvFfnIdeal.τ).loc Cert.ConvFfnIdeal.main_arg4)
      ∧ r.2.mem ((c.tc : Thread Cert.ConvFfnIdeal.nD Cert.ConvFfnIdeal.τ).loc Cert.ConvFfnIdeal.main_arg5) = m ((c.tc : Thread Cert.ConvFfnIdeal.nD Cert.ConvFfnIdeal.τ).loc Cert.ConvFfnIdeal.main_arg5))
      ∧ r.2.sem = fun _ => 0)

def quiescent_ConvFfnRefIdeal [hConvFfnRefIdeal : Cert.ConvFfnRefIdeal.Facts] : Prop :=
  ∀ (m : (ℓ : Loc Cert.ConvFfnRefIdeal.nD Cert.ConvFfnRefIdeal.τ Cert.ConvFfnRefIdeal.sig) → Buf (Elt Ideal) ℓ) (g : Dev Cert.ConvFfnRefIdeal.nD → PrngReg), Pre_ConvFfnRefIdeal m →
    θ_run (Cert.ConvFfnRefIdeal.defs (F := Ideal)) (onTc (τ := Cert.ConvFfnRefIdeal.τ) (Cert.ConvFfnRefIdeal.main (F := Ideal))) ⟨m, fun _ => 0, g⟩ (fun r => (∀ c : Dev Cert.ConvFfnRefIdeal.nD,
      r.2.mem ((c.tc : Thread Cert.ConvFfnRefIdeal.nD Cert.ConvFfnRefIdeal.τ).loc Cert.ConvFfnRefIdeal.main_arg0) = m ((c.tc : Thread Cert.ConvFfnRefIdeal.nD Cert.ConvFfnRefIdeal.τ).loc Cert.ConvFfnRefIdeal.main_arg0)
      ∧ r.2.mem ((c.tc : Thread Cert.ConvFfnRefIdeal.nD Cert.ConvFfnRefIdeal.τ).loc Cert.ConvFfnRefIdeal.main_arg1) = m ((c.tc : Thread Cert.ConvFfnRefIdeal.nD Cert.ConvFfnRefIdeal.τ).loc Cert.ConvFfnRefIdeal.main_arg1)
      ∧ r.2.mem ((c.tc : Thread Cert.ConvFfnRefIdeal.nD Cert.ConvFfnRefIdeal.τ).loc Cert.ConvFfnRefIdeal.main_arg2) = m ((c.tc : Thread Cert.ConvFfnRefIdeal.nD Cert.ConvFfnRefIdeal.τ).loc Cert.ConvFfnRefIdeal.main_arg2)
      ∧ r.2.mem ((c.tc : Thread Cert.ConvFfnRefIdeal.nD Cert.ConvFfnRefIdeal.τ).loc Cert.ConvFfnRefIdeal.main_arg3) = m ((c.tc : Thread Cert.ConvFfnRefIdeal.nD Cert.ConvFfnRefIdeal.τ).loc Cert.ConvFfnRefIdeal.main_arg3)
      ∧ r.2.mem ((c.tc : Thread Cert.ConvFfnRefIdeal.nD Cert.ConvFfnRefIdeal.τ).loc Cert.ConvFfnRefIdeal.main_arg4) = m ((c.tc : Thread Cert.ConvFfnRefIdeal.nD Cert.ConvFfnRefIdeal.τ).loc Cert.ConvFfnRefIdeal.main_arg4)
      ∧ r.2.mem ((c.tc : Thread Cert.ConvFfnRefIdeal.nD Cert.ConvFfnRefIdeal.τ).loc Cert.ConvFfnRefIdeal.main_arg5) = m ((c.tc : Thread Cert.ConvFfnRefIdeal.nD Cert.ConvFfnRefIdeal.τ).loc Cert.ConvFfnRefIdeal.main_arg5))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Dilated [hDilated : Cert.Dilated.Facts] : Prop :=
  ∀ (m : (ℓ : Loc Cert.Dilated.nD Cert.Dilated.τ Cert.Dilated.sig) → Buf (Elt Bits) ℓ) (g : Dev Cert.Dilated.nD → PrngReg), Pre_Dilated m →
    θ_run (Cert.Dilated.defs (F := Bits)) (onTc (τ := Cert.Dilated.τ) (Cert.Dilated.main (F := Bits))) ⟨m, fun _ => 0, g⟩ (fun r => (∀ c : Dev Cert.Dilated.nD,
      r.2.mem ((c.tc : Thread Cert.Dilated.nD Cert.Dilated.τ).loc Cert.Dilated.main_arg0) = m ((c.tc : Thread Cert.Dilated.nD Cert.Dilated.τ).loc Cert.Dilated.main_arg0)
      ∧ r.2.mem ((c.tc : Thread Cert.Dilated.nD Cert.Dilated.τ).loc Cert.Dilated.main_arg1) = m ((c.tc : Thread Cert.Dilated.nD Cert.Dilated.τ).loc Cert.Dilated.main_arg1)
      ∧ r.2.mem ((c.tc : Thread Cert.Dilated.nD Cert.Dilated.τ).loc Cert.Dilated.main_arg2) = m ((c.tc : Thread Cert.Dilated.nD Cert.Dilated.τ).loc Cert.Dilated.main_arg2))
      ∧ r.2.sem = fun _ => 0)

def quiescent_DilatedIdeal [hDilatedIdeal : Cert.DilatedIdeal.Facts] : Prop :=
  ∀ (m : (ℓ : Loc Cert.DilatedIdeal.nD Cert.DilatedIdeal.τ Cert.DilatedIdeal.sig) → Buf (Elt Ideal) ℓ) (g : Dev Cert.DilatedIdeal.nD → PrngReg), Pre_DilatedIdeal m →
    θ_run (Cert.DilatedIdeal.defs (F := Ideal)) (onTc (τ := Cert.DilatedIdeal.τ) (Cert.DilatedIdeal.main (F := Ideal))) ⟨m, fun _ => 0, g⟩ (fun r => (∀ c : Dev Cert.DilatedIdeal.nD,
      r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
      ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1)
      ∧ r.2.mem ((c.tc : Thread Cert.DilatedIdeal.nD Cert.DilatedIdeal.τ).loc Cert.DilatedIdeal.main_arg2) = m ((c.tc : Thread Cert.DilatedIdeal.nD Cert.DilatedIdeal.τ).loc Cert.DilatedIdeal.main_arg2))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_v22) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_ConvFfn_ConvFfnIdeal : Prop :=
  True

def algebraic_ConvFfnIdeal_ConvFfnRefIdeal [hConvFfnIdeal : Cert.ConvFfnIdeal.Facts] [hConvFfnRefIdeal : Cert.ConvFfnRefIdeal.Facts] : Prop :=
  ∀ (m : (ℓ : Loc Cert.ConvFfnIdeal.nD Cert.ConvFfnIdeal.τ Cert.ConvFfnIdeal.sig) → Buf (Elt Ideal) ℓ) (g : Dev Cert.ConvFfnIdeal.nD → PrngReg)
    (m' : (ℓ : Loc Cert.ConvFfnRefIdeal.nD Cert.ConvFfnRefIdeal.τ Cert.ConvFfnRefIdeal.sig) → Buf (Elt Ideal) ℓ) (g' : Dev Cert.ConvFfnRefIdeal.nD → PrngReg), Pre_ConvFfnIdeal m →
    (∀ c : Dev Cert.ConvFfnIdeal.nD,
      m' ((c.tc : Thread Cert.ConvFfnRefIdeal.nD Cert.ConvFfnRefIdeal.τ).loc Cert.ConvFfnRefIdeal.main_arg0) = m ((c.tc : Thread Cert.ConvFfnIdeal.nD Cert.ConvFfnIdeal.τ).loc Cert.ConvFfnIdeal.main_arg0)
      ∧ m' ((c.tc : Thread Cert.ConvFfnRefIdeal.nD Cert.ConvFfnRefIdeal.τ).loc Cert.ConvFfnRefIdeal.main_arg1) = m ((c.tc : Thread Cert.ConvFfnIdeal.nD Cert.ConvFfnIdeal.τ).loc Cert.ConvFfnIdeal.main_arg1)
      ∧ m' ((c.tc : Thread Cert.ConvFfnRefIdeal.nD Cert.ConvFfnRefIdeal.τ).loc Cert.ConvFfnRefIdeal.main_arg2) = m ((c.tc : Thread Cert.ConvFfnIdeal.nD Cert.ConvFfnIdeal.τ).loc Cert.ConvFfnIdeal.main_arg2)
      ∧ m' ((c.tc : Thread Cert.ConvFfnRefIdeal.nD Cert.ConvFfnRefIdeal.τ).loc Cert.ConvFfnRefIdeal.main_arg3) = m ((c.tc : Thread Cert.ConvFfnIdeal.nD Cert.ConvFfnIdeal.τ).loc Cert.ConvFfnIdeal.main_arg3)
      ∧ m' ((c.tc : Thread Cert.ConvFfnRefIdeal.nD Cert.ConvFfnRefIdeal.τ).loc Cert.ConvFfnRefIdeal.main_arg4) = m ((c.tc : Thread Cert.ConvFfnIdeal.nD Cert.ConvFfnIdeal.τ).loc Cert.ConvFfnIdeal.main_arg4)
      ∧ m' ((c.tc : Thread Cert.ConvFfnRefIdeal.nD Cert.ConvFfnRefIdeal.τ).loc Cert.ConvFfnRefIdeal.main_arg5) = m ((c.tc : Thread Cert.ConvFfnIdeal.nD Cert.ConvFfnIdeal.τ).loc Cert.ConvFfnIdeal.main_arg5)) →
    ∃ (v0 : (c : Dev Cert.ConvFfnIdeal.nD) → Buf (Elt Ideal) ((c.tc : Thread Cert.ConvFfnIdeal.nD Cert.ConvFfnIdeal.τ).loc Cert.ConvFfnIdeal.main_v8)),
      θ_run (Cert.ConvFfnIdeal.defs (F := Ideal)) (onTc (τ := Cert.ConvFfnIdeal.τ) (Cert.ConvFfnIdeal.main (F := Ideal))) ⟨m, fun _ => 0, g⟩ (fun r => ∀ c : Dev Cert.ConvFfnIdeal.nD,
          r.2.mem ((c.tc : Thread Cert.ConvFfnIdeal.nD Cert.ConvFfnIdeal.τ).loc Cert.ConvFfnIdeal.main_v8) = v0 c
          ∧ r.2.mem ((c.tc : Thread Cert.ConvFfnIdeal.nD Cert.ConvFfnIdeal.τ).loc Cert.ConvFfnIdeal.main_arg0) = m ((c.tc : Thread Cert.ConvFfnIdeal.nD Cert.ConvFfnIdeal.τ).loc Cert.ConvFfnIdeal.main_arg0)
          ∧ r.2.mem ((c.tc : Thread Cert.ConvFfnIdeal.nD Cert.ConvFfnIdeal.τ).loc Cert.ConvFfnIdeal.main_arg1) = m ((c.tc : Thread Cert.ConvFfnIdeal.nD Cert.ConvFfnIdeal.τ).loc Cert.ConvFfnIdeal.main_arg1)
          ∧ r.2.mem ((c.tc : Thread Cert.ConvFfnIdeal.nD Cert.ConvFfnIdeal.τ).loc Cert.ConvFfnIdeal.main_arg2) = m ((c.tc : Thread Cert.ConvFfnIdeal.nD Cert.ConvFfnIdeal.τ).loc Cert.ConvFfnIdeal.main_arg2)
          ∧ r.2.mem ((c.tc : Thread Cert.ConvFfnIdeal.nD Cert.ConvFfnIdeal.τ).loc Cert.ConvFfnIdeal.main_arg3) = m ((c.tc : Thread Cert.ConvFfnIdeal.nD Cert.ConvFfnIdeal.τ).loc Cert.ConvFfnIdeal.main_arg3)
          ∧ r.2.mem ((c.tc : Thread Cert.ConvFfnIdeal.nD Cert.ConvFfnIdeal.τ).loc Cert.ConvFfnIdeal.main_arg4) = m ((c.tc : Thread Cert.ConvFfnIdeal.nD Cert.ConvFfnIdeal.τ).loc Cert.ConvFfnIdeal.main_arg4)
          ∧ r.2.mem ((c.tc : Thread Cert.ConvFfnIdeal.nD Cert.ConvFfnIdeal.τ).loc Cert.ConvFfnIdeal.main_arg5) = m ((c.tc : Thread Cert.ConvFfnIdeal.nD Cert.ConvFfnIdeal.τ).loc Cert.ConvFfnIdeal.main_arg5))
      ∧ θ_run (Cert.ConvFfnRefIdeal.defs (F := Ideal)) (onTc (τ := Cert.ConvFfnRefIdeal.τ) (Cert.ConvFfnRefIdeal.main (F := Ideal))) ⟨m', fun _ => 0, g'⟩ (fun r => ∀ c : Dev Cert.ConvFfnRefIdeal.nD,
          r.2.mem ((c.tc : Thread Cert.ConvFfnRefIdeal.nD Cert.ConvFfnRefIdeal.τ).loc Cert.ConvFfnRefIdeal.main_v59) = v0 c
          ∧ r.2.mem ((c.tc : Thread Cert.ConvFfnRefIdeal.nD Cert.ConvFfnRefIdeal.τ).loc Cert.ConvFfnRefIdeal.main_arg0) = m' ((c.tc : Thread Cert.ConvFfnRefIdeal.nD Cert.ConvFfnRefIdeal.τ).loc Cert.ConvFfnRefIdeal.main_arg0)
          ∧ r.2.mem ((c.tc : Thread Cert.ConvFfnRefIdeal.nD Cert.ConvFfnRefIdeal.τ).loc Cert.ConvFfnRefIdeal.main_arg1) = m' ((c.tc : Thread Cert.ConvFfnRefIdeal.nD Cert.ConvFfnRefIdeal.τ).loc Cert.ConvFfnRefIdeal.main_arg1)
          ∧ r.2.mem ((c.tc : Thread Cert.ConvFfnRefIdeal.nD Cert.ConvFfnRefIdeal.τ).loc Cert.ConvFfnRefIdeal.main_arg2) = m' ((c.tc : Thread Cert.ConvFfnRefIdeal.nD Cert.ConvFfnRefIdeal.τ).loc Cert.ConvFfnRefIdeal.main_arg2)
          ∧ r.2.mem ((c.tc : Thread Cert.ConvFfnRefIdeal.nD Cert.ConvFfnRefIdeal.τ).loc Cert.ConvFfnRefIdeal.main_arg3) = m' ((c.tc : Thread Cert.ConvFfnRefIdeal.nD Cert.ConvFfnRefIdeal.τ).loc Cert.ConvFfnRefIdeal.main_arg3)
          ∧ r.2.mem ((c.tc : Thread Cert.ConvFfnRefIdeal.nD Cert.ConvFfnRefIdeal.τ).loc Cert.ConvFfnRefIdeal.main_arg4) = m' ((c.tc : Thread Cert.ConvFfnRefIdeal.nD Cert.ConvFfnRefIdeal.τ).loc Cert.ConvFfnRefIdeal.main_arg4)
          ∧ r.2.mem ((c.tc : Thread Cert.ConvFfnRefIdeal.nD Cert.ConvFfnRefIdeal.τ).loc Cert.ConvFfnRefIdeal.main_arg5) = m' ((c.tc : Thread Cert.ConvFfnRefIdeal.nD Cert.ConvFfnRefIdeal.τ).loc Cert.ConvFfnRefIdeal.main_arg5))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v13_0)) (v1 : (c : Dev Cert.RopeIdeal.nD) → Buf (Elt Ideal) ((c.tc : Thread Cert.RopeIdeal.nD Cert.RopeIdeal.τ).loc Cert.RopeIdeal.main_v13_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v13_0) = v0 c
          ∧ r.2.mem ((c.tc : Thread Cert.RopeIdeal.nD Cert.RopeIdeal.τ).loc Cert.RopeIdeal.main_v13_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v19) = v0 c
          ∧ r.2.mem ((c.tc : Thread Cert.RopeRefIdeal.nD Cert.RopeRefIdeal.τ).loc Cert.RopeRefIdeal.main_v21) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Dilated_DilatedIdeal : Prop :=
  IdealRules.named_const.Statement Cert.DilatedIdeal.κ "mask" .f32 0xF149F2CA#32 ⊥

def Claim : Prop :=
  ∃ (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hConvFfn : Cert.ConvFfn.Facts) (hConvFfnIdeal : Cert.ConvFfnIdeal.Facts) (hConvFfnRefIdeal : Cert.ConvFfnRefIdeal.Facts) (hRope : Cert.Rope.Facts) (hRopeIdeal : Cert.RopeIdeal.Facts) (hRopeRefIdeal : Cert.RopeRefIdeal.Facts) (hDilated : Cert.Dilated.Facts) (hDilatedIdeal : Cert.DilatedIdeal.Facts),
    quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ConvFfn (hConvFfn := hConvFfn)
    ∧ quiescent_ConvFfnIdeal (hConvFfnIdeal := hConvFfnIdeal)
    ∧ quiescent_ConvFfnRefIdeal (hConvFfnRefIdeal := hConvFfnRefIdeal)
    ∧ quiescent_Rope (hRope := hRope)
    ∧ quiescent_RopeIdeal (hRopeIdeal := hRopeIdeal)
    ∧ quiescent_RopeRefIdeal (hRopeRefIdeal := hRopeRefIdeal)
    ∧ quiescent_Dilated (hDilated := hDilated)
    ∧ quiescent_DilatedIdeal (hDilatedIdeal := hDilatedIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_ConvFfn_ConvFfnIdeal
    ∧ algebraic_ConvFfnIdeal_ConvFfnRefIdeal (hConvFfnIdeal := hConvFfnIdeal) (hConvFfnRefIdeal := hConvFfnRefIdeal)
    ∧ preserves_Rope_RopeIdeal
    ∧ algebraic_RopeIdeal_RopeRefIdeal (hRopeIdeal := hRopeIdeal) (hRopeRefIdeal := hRopeRefIdeal)
    ∧ preserves_Dilated_DilatedIdeal
-- ==== InProj.lean ====
abbrev S16x2048x2048 : Shape := ⟨3, ![16, 2048, 2048]⟩
abbrev S1x2048 : Shape := ⟨2, ![1, 2048]⟩
abbrev S1x2048x13344 : Shape := ⟨3, ![1, 2048, 13344]⟩
abbrev S32768x2048 : Shape := ⟨2, ![32768, 2048]⟩
abbrev S2048x13344 : Shape := ⟨2, ![2048, 13344]⟩
abbrev S2048x4096 : Shape := ⟨2, ![2048, 4096]⟩
abbrev S2048x9216 : Shape := ⟨2, ![2048, 9216]⟩
abbrev S2048x13312 : Shape := ⟨2, ![2048, 13312]⟩
abbrev S2048 : Shape := ⟨1, ![2048]⟩
abbrev S32768x13312 : Shape := ⟨2, ![32768, 13312]⟩
abbrev S32768x128 : Shape := ⟨2, ![32768, 128]⟩
abbrev S1024x2048 : Shape := ⟨2, ![1024, 2048]⟩
abbrev S2048x1024 : Shape := ⟨2, ![2048, 1024]⟩
abbrev S2048x128 : Shape := ⟨2, ![2048, 128]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x13344, .f32⟩
  | .hbm, ⟨3, _⟩ => ⟨S32768x2048, .f32⟩
  | .hbm, ⟨4, _⟩ => ⟨S2048x13344, .f32⟩
  | .hbm, ⟨5, _⟩ => ⟨S2048x13344, .bf16⟩
  | .hbm, ⟨6, _⟩ => ⟨S2048x4096, .bf16⟩
  | .hbm, ⟨7, _⟩ => ⟨S2048x9216, .bf16⟩
  | .hbm, ⟨8, _⟩ => ⟨S2048x13312, .bf16⟩
  | .hbm, ⟨9, _⟩ => ⟨S2048, .f32⟩
  | .hbm, ⟨10, _⟩ => ⟨S1x2048, .f32⟩
  | .hbm, ⟨11, _⟩ => ⟨S32768x13312, .bf16⟩
  | .hbm, ⟨12, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c4_i32 : BitVec 32 := 4#32
  let v9 : BitVec 32 := Scalar.addi c0_i32_6 c4_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c256_i32 : BitVec 32 := 256#32
  let v15 : BitVec 32 := Scalar.muli arg9 c256_i32
  v15
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c256_i32 : BitVec 32 := 256#32
  let v15 : BitVec 32 := Scalar.muli arg9 c256_i32
  let v16 : BitVec 32 := v15
  let v17 : Index := Scalar.indexCast v16
  let c0_15 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c32_i32 : BitVec 32 := 32#32
  let c0_i32_0 : BitVec 32 := 0#32
  ![c0_i32.toNat, c32_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S16x2048x2048 : Shape := ⟨3, ![16, 2048, 2048]⟩
abbrev S1x2048 : Shape := ⟨2, ![1, 2048]⟩
abbrev S1x2048x13344 : Shape := ⟨3, ![1, 2048, 13344]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x13344 : Shape := ⟨2, ![2048, 13344]⟩
abbrev S16x2048x13344 : Shape := ⟨3, ![16, 2048, 13344]⟩
abbrev S16x2048x4096 : Shape := ⟨3, ![16, 2048, 4096]⟩
abbrev S16x2048x9216 : Shape := ⟨3, ![16, 2048, 9216]⟩
abbrev S16x2048x13312 : Shape := ⟨3, ![16, 2048, 13312]⟩
abbrev S16x2048x128 : Shape := ⟨3, ![16, 2048, 128]⟩
abbrev S32768x13312 : Shape := ⟨2, ![32768, 13312]⟩
abbrev S32768x128 : Shape := ⟨2, ![32768, 128]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x13344, .f32⟩
  | .hbm, ⟨3, _⟩ => ⟨S2048, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S1x1x2048, .f32⟩
  | .hbm, ⟨18, _⟩ => ⟨S16x2048x2048, .f32⟩
  | .hbm, ⟨19, _⟩ => ⟨S16x2048x2048, .f32⟩
  | .hbm, ⟨20, _⟩ => ⟨S2048x13344, .f32⟩
  | .hbm, ⟨21, _⟩ => ⟨S16x2048x13344, .f32⟩
  | .hbm, ⟨22, _⟩ => ⟨S16x2048x4096, .f32⟩
  | .hbm, ⟨23, _⟩ => ⟨S16x2048x9216, .f32⟩
  | .hbm, ⟨24, _⟩ => ⟨S16x2048x13312, .f32⟩
  | .hbm, ⟨25, _⟩ => ⟨S16x2048x128, .f32⟩
  | .hbm, ⟨26, _⟩ => ⟨S32768x13312, .f32⟩
  | .hbm, ⟨27, _⟩ => ⟨S32768x13312, .bf16⟩
  | .hbm, ⟨28, _⟩ => ⟨S32768x128, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== OutProj.lean ====
abbrev S16x2048x2048 : Shape := ⟨3, ![16, 2048, 2048]⟩
abbrev S16x2048x1024 : Shape := ⟨3, ![16, 2048, 1024]⟩
abbrev S1x2048x2048 : Shape := ⟨3, ![1, 2048, 2048]⟩
abbrev S32768x2048 : Shape := ⟨2, ![32768, 2048]⟩
abbrev S32768x1024 : Shape := ⟨2, ![32768, 1024]⟩
abbrev S2048x2048 : Shape := ⟨2, ![2048, 2048]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S1x2048x2048, .f32⟩
  | .hbm, ⟨4, _⟩ => ⟨S32768x2048, .f32⟩
  | .hbm, ⟨5, _⟩ => ⟨S32768x1024, .bf16⟩
  | .hbm, ⟨6, _⟩ => ⟨S32768x1024, .bf16⟩
  | .hbm, ⟨7, _⟩ => ⟨S2048x2048, .f32⟩
  | .hbm, ⟨8, _⟩ => ⟨S2048x2048, .bf16⟩
  | .hbm, ⟨9, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16x2048x2048 : Shape := ⟨3, ![16, 2048, 2048]⟩
abbrev S16x2048x1024 : Shape := ⟨3, ![16, 2048, 1024]⟩
abbrev S1x2048x2048 : Shape := ⟨3, ![1, 2048, 2048]⟩
abbrev S2048x2048 : Shape := ⟨2, ![2048, 2048]⟩
abbrev S32768x2048 : Shape := ⟨2, ![32768, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S1x2048x2048, .f32⟩
  | .hbm, ⟨4, _⟩ => ⟨S16x2048x1024, .f32⟩
  | .hbm, ⟨5, _⟩ => ⟨S16x2048x1024, .f32⟩
  | .hbm, ⟨6, _⟩ => ⟨S16x2048x2048, .f32⟩
  | .hbm, ⟨7, _⟩ => ⟨S2048x2048, .f32⟩
  | .hbm, ⟨8, _⟩ => ⟨S16x2048x2048, .f32⟩
  | .hbm, ⟨9, _⟩ => ⟨S16x2048x2048, .f32⟩
  | .hbm, ⟨10, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ConvFfn.lean ====
abbrev S32768x2048 : Shape := ⟨2, ![32768, 2048]⟩
abbrev S1x2048 : Shape := ⟨2, ![1, 2048]⟩
abbrev S1x2048x11264 : Shape := ⟨3, ![1, 2048, 11264]⟩
abbrev S1x3x11264 : Shape := ⟨3, ![1, 3, 11264]⟩
abbrev S1x5632x2048 : Shape := ⟨3, ![1, 5632, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S512x2048 : Shape := ⟨2, ![512, 2048]⟩
abbrev S1056x2048 : Shape := ⟨2, ![1056, 2048]⟩
abbrev S1056x512 : Shape := ⟨2, ![1056, 512]⟩
abbrev S256x2048 : Shape := ⟨2, ![256, 2048]⟩
abbrev S256 : Shape := ⟨1, ![256]⟩
abbrev S256x1 : Shape := ⟨2, ![256, 1]⟩
abbrev S16 : Shape := ⟨1, ![16]⟩
abbrev S16x1 : Shape := ⟨2, ![16, 1]⟩
abbrev S1024x512 : Shape := ⟨2, ![1024, 512]⟩
abbrev S1x512 : Shape := ⟨2, ![1, 512]⟩

abbrev nBuf : Space → Nat
  | .hbm => 15
  | .vmem => 23
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x11264, .f32⟩
  | .hbm, ⟨3, _⟩ => ⟨S1x3x11264, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S2048x11264, .f32⟩
  | .hbm, ⟨8, _⟩ => ⟨S2048x11264, .bf16⟩
  | .hbm, ⟨9, _⟩ => ⟨S3x11264, .f32⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S1024x2048, .f32⟩
  | .local _ .vmem, ⟨19, _⟩ => ⟨S1024x2048, .f32⟩
  | .local _ .vmem, ⟨20, _⟩ => ⟨S1056x2048, .bf16⟩
  | .local _ .vmem, ⟨21, _⟩ => ⟨S1056x512, .f32⟩
  | .local _ .vmem, ⟨22, _⟩ => ⟨S1056x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_38 : BitVec 32 := 0#32
  let c4_i32 : BitVec 32 := 4#32
  let v64 : BitVec 32 := Scalar.addi c0_i32_38 c4_i32
  let c1_i32 : BitVec 32 := 1#32
  ⟨c0_i32_38, v64, c1_i32⟩
def k0_mult1 (k0_t1 : Fin k0_t1_loop.trips) : BitVec 32 :=
  let c0_i32_38 : BitVec 32 := 0#32
  let c1_i32 : BitVec 32 := 1#32
  let arg16 : BitVec 32 := Scf.iv c0_i32_38 c1_i32 k0_t1
  let c256_i32 : BitVec 32 := 256#32
  let v134 : BitVec 32 := Scalar.muli arg16 c256_i32
  v134
def k0_off1 (k0_t1 : Fin k0_t1_loop.trips) : Fin 2 → Nat :=
  let c0_i32_38 : BitVec 32 := 0#32
  let c1_i32 : BitVec 32 := 1#32
  let arg16 : BitVec 32 := Scf.iv c0_i32_38 c1_i32 k0_t1
  let c256_i32 : BitVec 32 := 256#32
  let v134 : BitVec 32 := Scalar.muli arg16 c256_i32
  let v135 : BitVec 32 := v134
  let v136 : Index := Scalar.indexCast v135
  let c0_78 : Index := 0#32
  ![v136.toNat, 0]
def k0_off2 (k0_t1 : Fin k0_t1_loop.trips) : Fin 2 → Nat :=
  let c16_i32 : BitVec 32 := 16#32
  let c0_i32_38 : BitVec 32 := 0#32
  let c1_i32 : BitVec 32 := 1#32
  let arg16 : BitVec 32 := Scf.iv c0_i32_38 c1_i32 k0_t1
  let c256_i32 : BitVec 32 := 256#32
  let v134 : BitVec 32 := Scalar.muli arg16 c256_i32
  let v135 : BitVec 32 := v134
  let v153 : BitVec 32 := Scalar.addi c16_i32 v135
  let v154 : Index := Scalar.indexCast v153
  let c0_84 : Index := 0#32
  ![v154.toNat, 0]
def k0_cond2 (i : grid0.Coords) : BitVec 1 :=
  let arg1 : BitVec 32 := BitVec.ofNat 32 (i 1).val
  let c10_i32 : BitVec 32 := 10#32
  let v61 : BitVec 1 := Scalar.cmpi .eq arg1 c10_i32
  let v62 : BitVec 32 := Scalar.extui v61
  let c0_i32_37 : BitVec 32 := 0#32
  let v63 : BitVec 1 := Scalar.cmpi .ne v62 c0_i32_37
  v63

@[reducible] def k0_t2_loop : Scf.Loop 32 :=
  let c0_i32_38 : BitVec 32 := 0#32
  let c4_i32 : BitVec 32 := 4#32
  let v64 : BitVec 32 := Scalar.addi c0_i32_38 c4_i32
  let c1_i32 : BitVec 32 := 1#32
  ⟨c0_i32_38, v64, c1_i32⟩
def k0_mult2 (k0_t2 : Fin k0_t2_loop.trips) : BitVec 32 :=
  let c0_i32_38 : BitVec 32 := 0#32
  let c1_i32 : BitVec 32 := 1#32
  let arg16 : BitVec 32 := Scf.iv c0_i32_38 c1_i32 k0_t2
  let c256_i32 : BitVec 32 := 256#32
  let v65 : BitVec 32 := Scalar.muli arg16 c256_i32
  v65
def k0_off3 (k0_t2 : Fin k0_t2_loop.trips) : Fin 2 → Nat :=
  let c0_i32_38 : BitVec 32 := 0#32
  let c1_i32 : BitVec 32 := 1#32
  let arg16 : BitVec 32 := Scf.iv c0_i32_38 c1_i32 k0_t2
  let c256_i32 : BitVec 32 := 256#32
  let v65 : BitVec 32 := Scalar.muli arg16 c256_i32
  let v66 : BitVec 32 := v65
  let v67 : Index := Scalar.indexCast v66
  let c0_40 : Index := 0#32
  ![v67.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvFfnRefIdeal.lean ====
abbrev S32768x2048 : Shape := ⟨2, ![32768, 2048]⟩
abbrev S1x2048 : Shape := ⟨2, ![1, 2048]⟩
abbrev S1x2048x11264 : Shape := ⟨3, ![1, 2048, 11264]⟩
abbrev S1x3x11264 : Shape := ⟨3, ![1, 3, 11264]⟩
abbrev S1x5632x2048 : Shape := ⟨3, ![1, 5632, 2048]⟩
abbrev S2048 : Shape := ⟨1, ![2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x11264 : Shape := ⟨2, ![2048, 11264]⟩
abbrev S16x2048x11264 : Shape := ⟨3, ![16, 2048, 11264]⟩
abbrev S3x11264 : Shape := ⟨2, ![3, 11264]⟩
abbrev S16x2050x11264 : Shape := ⟨3, ![16, 2050, 11264]⟩
abbrev S1x11264 : Shape := ⟨2, ![1, 11264]⟩
abbrev S11264 : Shape := ⟨1, ![11264]⟩
abbrev S1x1x11264 : Shape := ⟨3, ![1, 1, 11264]⟩
abbrev S16x2048x5632 : Shape := ⟨3, ![16, 2048, 5632]⟩
abbrev S5632x2048 : Shape := ⟨2, ![5632, 2048]⟩

abbrev nBuf : Space → Nat
  | .hbm => 82
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x11264, .f32⟩
  | .hbm, ⟨3, _⟩ => ⟨S1x3x11264, .f32⟩
  | .hbm, ⟨4, _⟩ => ⟨S1x5632x2048, .f32⟩
  | .hbm, ⟨5, _⟩ => ⟨S2048, .f32⟩
  | .hbm, ⟨6, _⟩ => ⟨S16x2048x2048, .f32⟩
  | .hbm, ⟨7, _⟩ => ⟨S2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S1x1x2048, .f32⟩
  | .hbm, ⟨22, _⟩ => ⟨S16x2048x2048, .f32⟩
  | .hbm, ⟨23, _⟩ => ⟨S16x2048x2048, .f32⟩
  | .hbm, ⟨24, _⟩ => ⟨S2048x11264, .f32⟩
  | .hbm, ⟨25, _⟩ => ⟨S16x2048x11264, .f32⟩
  | .hbm, ⟨26, _⟩ => ⟨S3x11264, .f32⟩
  | .hbm, ⟨27, _⟩ => ⟨S_, .i32⟩
  | .hbm, ⟨28, _⟩ => ⟨S_, .f32⟩
  | .hbm, ⟨29, _⟩ => ⟨S16x2050x11264, .f32⟩
  | .hbm, ⟨30, _⟩ => ⟨S16x2048x11264, .f32⟩
  | .hbm, ⟨31, _⟩ => ⟨S1x11264, .f32⟩
  | .hbm, ⟨32, _⟩ => ⟨S11264, .f32⟩
  | .hbm, ⟨33, _⟩ => ⟨S1x1x11264, .f32⟩
  | .hbm, ⟨34, _⟩ => ⟨S16x2048x11264, .f32⟩
  | .hbm, ⟨35, _⟩ => ⟨S16x2048x11264, .f32⟩
  | .hbm, ⟨36, _⟩ => ⟨S16x2048x11264, .f32⟩
  | .hbm, ⟨37, _⟩ => ⟨S1x11264, .f32⟩
  | .hbm, ⟨38, _⟩ => ⟨S11264, .f32⟩
  | .hbm, ⟨39, _⟩ => ⟨S1x1x11264, .f32⟩
  | .hbm, ⟨40, _⟩ => ⟨S16x2048x11264, .f32⟩
  | .hbm, ⟨41, _⟩ => ⟨S16x2048x11264, .f32⟩
  | .hbm, ⟨42, _⟩ => ⟨S16x2048x11264, .f32⟩
  | .hbm, ⟨43, _⟩ => ⟨S16x2048x11264, .f32⟩
  | .hbm, ⟨44, _⟩ => ⟨S1x11264, .f32⟩
  | .hbm, ⟨45, _⟩ => ⟨S11264, .f32⟩
  | .hbm, ⟨46, _⟩ => ⟨S1x1x11264, .f32⟩
  | .hbm, ⟨47, _⟩ => ⟨S16x2048x11264, .f32⟩
  | .hbm, ⟨48, _⟩ => ⟨S16x2048x11264, .f32⟩
  | .hbm, ⟨49, _⟩ => ⟨S16x2048x11264, .f32⟩
  | .hbm, ⟨50, _⟩ => ⟨S16x2048x5632, .f32⟩
  | .hbm, ⟨51, _⟩ => ⟨S16x2048x5632, .f32⟩
  | .hbm, ⟨52, _⟩ => ⟨S16x2048x5632, .f32⟩
  | .hbm, ⟨53, _⟩ => ⟨S16x2048x5632, .f32⟩
  | .hbm, ⟨54, _⟩ => ⟨S_, .f32⟩
  | .hbm, ⟨55, _⟩ => ⟨S16x2048x5632, .f32⟩
  | .hbm, ⟨56, _⟩ => ⟨S16x2048x5632, .f32⟩
  | .hbm, ⟨57, _⟩ => ⟨S_, .f32⟩
  | .hbm, ⟨58, _⟩ => ⟨S16x2048x5632, .f32⟩
  | .hbm, ⟨59, _⟩ => ⟨S16x2048x5632, .f32⟩
  | .hbm, ⟨60, _⟩ => ⟨S16x2048x5632, .f32⟩
  | .hbm, ⟨61, _⟩ => ⟨S16x2048x5632, .f32⟩
  | .hbm, ⟨62, _⟩ => ⟨S5632x2048, .f32⟩
  | .hbm, ⟨63, _⟩ => ⟨S16x2048x2048, .f32⟩
  | .hbm, ⟨64, _⟩ => ⟨S16x2048x2048, .f32⟩
  | .hbm, ⟨65, _⟩ => ⟨S16x2048x2048, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x2048, .f32⟩
  | .hbm, ⟨77, _⟩ => ⟨S16x2048x2048, .f32⟩
  | .hbm, ⟨78, _⟩ => ⟨S1x1x2048, .f32⟩
  | .hbm, ⟨79, _⟩ => ⟨S16x2048x2048, .f32⟩
  | .hbm, ⟨80, _⟩ => ⟨S16x2048x2048, .f32⟩
  | .hbm, ⟨81, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_2 : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Rope.lean ====
abbrev S16x2048 : Shape := ⟨2, ![16, 2048]⟩
abbrev S16 : Shape := ⟨1, ![16]⟩
abbrev S_ : Shape := ⟨0, ![]⟩
abbrev S32 : Shape := ⟨1, ![32]⟩
abbrev S32x1 : Shape := ⟨2, ![32, 1]⟩
abbrev S16x1x2048 : Shape := ⟨3, ![16, 1, 2048]⟩
abbrev S16x2048x128 : Shape := ⟨3, ![16, 2048, 128]⟩
abbrev S1x1x2048 : Shape := ⟨3, ![1, 1, 2048]⟩
abbrev S1x2048x128 : Shape := ⟨3, ![1, 2048, 128]⟩
abbrev S1x2048 : Shape := ⟨2, ![1, 2048]⟩
abbrev S32x2048 : Shape := ⟨2, ![32, 2048]⟩
abbrev S96x128 : Shape := ⟨2, ![96, 128]⟩
abbrev S32x128 : Shape := ⟨2, ![32, 128]⟩
abbrev S128x128 : Shape := ⟨2, ![128, 128]⟩
abbrev S1x128x128 : Shape := ⟨3, ![1, 128, 128]⟩

abbrev nBuf : Space → Nat
  | .hbm => 20
  | .vmem => 7
  | .smem => 0
  | _ => 0

abbrev bufTy : (tb : Table) → Fin (tcTables nBuf tb) → BufTy
  | .hbm, ⟨0, _⟩ => ⟨S16x2048, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S32, .f32⟩
  | .hbm, ⟨16, _⟩ => ⟨S32x1, .f32⟩
  | .hbm, ⟨17, _⟩ => ⟨S16x1x2048, .i32⟩
  | .hbm, ⟨18, _⟩ => ⟨S16x2048x128, .f32⟩
  | .hbm, ⟨19, _⟩ => ⟨S16x2048x128, .f32⟩
  | .local _ .vmem, ⟨0, _⟩ => ⟨S1x1x2048, .i32⟩
  | .local _ .vmem, ⟨1, _⟩ => ⟨S1x1x2048, .i32⟩
  | .local _ .vmem, ⟨2, _⟩ => ⟨S32x1, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S16x2048 : Shape := ⟨2, ![16, 2048]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S16x2048x96 : Shape := ⟨3, ![16, 2048, 96]⟩
abbrev S16x2048x128 : Shape := ⟨3, ![16, 2048, 128]⟩

abbrev nBuf : Space → Nat
  | .hbm => 29
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x2048, .f32⟩
  | .hbm, ⟨16, _⟩ => ⟨S16x2048x1, .f32⟩
  | .hbm, ⟨17, _⟩ => ⟨S1x1x16, .f32⟩
  | .hbm, ⟨18, _⟩ => ⟨S16x2048x16, .f32⟩
  | .hbm, ⟨19, _⟩ => ⟨S16x2048x16, .f32⟩
  | .hbm, ⟨20, _⟩ => ⟨S16x2048x16, .f32⟩
  | .hbm, ⟨21, _⟩ => ⟨S16x2048x16, .f32⟩
  | .hbm, ⟨22, _⟩ => ⟨S16x2048x16, .f32⟩
  | .hbm, ⟨23, _⟩ => ⟨S_, .f32⟩
  | .hbm, ⟨24, _⟩ => ⟨S16x2048x96, .f32⟩
  | .hbm, ⟨25, _⟩ => ⟨S16x2048x128, .f32⟩
  | .hbm, ⟨26, _⟩ => ⟨S_, .f32⟩
  | .hbm, ⟨27, _⟩ => ⟨S16x2048x96, .f32⟩
  | .hbm, ⟨28, _⟩ => ⟨S16x2048x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Dilated.lean ====
abbrev S16x2048x13312 : Shape := ⟨3, ![16, 2048, 13312]⟩
abbrev S16x2048x128 : Shape := ⟨3, ![16, 2048, 128]⟩
abbrev S128x128 : Shape := ⟨2, ![128, 128]⟩
abbrev S16x2048x1024 : Shape := ⟨3, ![16, 2048, 1024]⟩
abbrev S1x2048x128 : Shape := ⟨3, ![1, 2048, 128]⟩
abbrev S2048x128 : Shape := ⟨2, ![2048, 128]⟩
abbrev S3x2048x128 : Shape := ⟨3, ![3, 2048, 128]⟩
abbrev S3x128x256 : Shape := ⟨3, ![3, 128, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1x128x128 : Shape := ⟨3, ![1, 128, 128]⟩

abbrev nBuf : Space → Nat
  | .hbm => 5
  | .vmem => 31
  | .smem => 0
  | _ => 0

abbrev bufTy : (tb : Table) → Fin (tcTables nBuf tb) → BufTy
  | .hbm, ⟨0, _⟩ => ⟨S16x2048x13312, .bf16⟩
  | .hbm, ⟨1, _⟩ => ⟨S16x2048x128, .f32⟩
  | .hbm, ⟨2, _⟩ => ⟨S16x2048x128, .f32⟩
  | .hbm, ⟨3, _⟩ => ⟨S128x128, .bf16⟩
  | .hbm, ⟨4, _⟩ => ⟨S16x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | .local _ .vmem, ⟨22, _⟩ => ⟨S128x128, .bf16⟩
  | .local _ .vmem, ⟨23, _⟩ => ⟨S1x2048x128, .bf16⟩
  | .local _ .vmem, ⟨24, _⟩ => ⟨S1x2048x128, .bf16⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S3x2048x128, .f32⟩
  | .local _ .vmem, ⟨29, _⟩ => ⟨S3x2048x128, .f32⟩
  | .local _ .vmem, ⟨30, _⟩ => ⟨S3x128x256, .f32⟩
  | _, _ => ⟨S16x2048x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  let c8_i32 : BitVec 32 := 8#32
  let v1 : BitVec 32 := Scalar.muli c0_i32 c8_i32
  let c0_i32_1 : BitVec 32 := 0#32
  let v2 : BitVec 32 := Scalar.addi v1 c0_i32_1
  let c256_i32 : BitVec 32 := 256#32
  let v3 : BitVec 32 := Scalar.muli v2 c256_i32
  v3
def k0_mult2 : BitVec 32 :=
  let c0_i32 : BitVec 32 := 0#32
  let c8_i32_2 : BitVec 32 := 8#32
  let v5 : BitVec 32 := Scalar.muli c0_i32 c8_i32_2
  let c1_i32 : BitVec 32 := 1#32
  let v6 : BitVec 32 := Scalar.addi v5 c1_i32
  let c256_i32_3 : BitVec 32 := 256#32
  let v7 : BitVec 32 := Scalar.muli v6 c256_i32_3
  v7
def k0_mult3 : BitVec 32 :=
  let c0_i32 : BitVec 32 := 0#32
  let c8_i32_4 : BitVec 32 := 8#32
  let v9 : BitVec 32 := Scalar.muli c0_i32 c8_i32_4
  let c2_i32 : BitVec 32 := 2#32
  let v10 : BitVec 32 := Scalar.addi v9 c2_i32
  let c256_i32_5 : BitVec 32 := 256#32
  let v11 : BitVec 32 := Scalar.muli v10 c256_i32_5
  v11
def k0_mult4 : BitVec 32 :=
  let c0_i32 : BitVec 32 := 0#32
  let c8_i32_6 : BitVec 32 := 8#32
  let v13 : BitVec 32 := Scalar.muli c0_i32 c8_i32_6
  let c3_i32 : BitVec 32 := 3#32
  let v14 : BitVec 32 := Scalar.addi v13 c3_i32
  let c256_i32_7 : BitVec 32 := 256#32
  let v15 : BitVec 32 := Scalar.muli v14 c256_i32_7
  v15
def k0_mult5 : BitVec 32 :=
  let c0_i32 : BitVec 32 := 0#32
  let c8_i32_8 : BitVec 32 := 8#32
  let v17 : BitVec 32 := Scalar.muli c0_i32 c8_i32_8
  let c4_i32 : BitVec 32 := 4#32
  let v18 : BitVec 32 := Scalar.addi v17 c4_i32
  let c256_i32_9 : BitVec 32 := 256#32
  let v19 : BitVec 32 := Scalar.muli v18 c256_i32_9
  v19
def k0_mult6 : BitVec 32 :=
  let c0_i32 : BitVec 32 := 0#32
  let c8_i32_10 : BitVec 32 := 8#32
  let v21 : BitVec 32 := Scalar.muli c0_i32 c8_i32_10
  let c5_i32 : BitVec 32 := 5#32
  let v22 : BitVec 32 := Scalar.addi v21 c5_i32
  let c256_i32_11 : BitVec 32 := 256#32
  let v23 : BitVec 32 := Scalar.muli v22 c256_i32_11
  v23
def k0_mult7 : BitVec 32 :=
  let c0_i32 : BitVec 32 := 0#32
  let c8_i32_12 : BitVec 32 := 8#32
  let v25 : BitVec 32 := Scalar.muli c0_i32 c8_i32_12
  let c6_i32 : BitVec 32 := 6#32
  let v26 : BitVec 32 := Scalar.addi v25 c6_i32
  let c256_i32_13 : BitVec 32 := 256#32
  let v27 : BitVec 32 := Scalar.muli v26 c256_i32_13
  v27
def k0_mult8 : BitVec 32 :=
  let c0_i32 : BitVec 32 := 0#32
  let c8_i32_14 : BitVec 32 := 8#32
  let v29 : BitVec 32 := Scalar.muli c0_i32 c8_i32_14
  let c7_i32 : BitVec 32 := 7#32
  let v30 : BitVec 32 := Scalar.addi v29 c7_i32
  let c256_i32_15 : BitVec 32 := 256#32
  let v31 : BitVec 32 := Scalar.muli v30 c256_i32_15
  v31
def k0_off1 (c0_i32_1 : BitVec 32) : Fin 3 → Nat :=
  let c0_16 : Index := 0#32
  let c0_i32 : BitVec 32 := 0#32
  let c8_i32 : BitVec 32 := 8#32
  let v1 : BitVec 32 := Scalar.muli c0_i32 c8_i32
  let v2 : BitVec 32 := Scalar.addi v1 c0_i32_1
  let c256_i32 : BitVec 32 := 256#32
  let v3 : BitVec 32 := Scalar.muli v2 c256_i32
  let v4 : BitVec 32 := v3
  let v33 : Index := Scalar.indexCast v4
  let c0_17 : Index := 0#32
  ![0, v33.toNat, 0]
def k0_off2 (c0_i32_1 : BitVec 32) : Fin 2 → Nat :=
  let c0_i32 : BitVec 32 := 0#32
  let c8_i32 : BitVec 32 := 8#32
  let v1 : BitVec 32 := Scalar.muli c0_i32 c8_i32
  let v2 : BitVec 32 := Scalar.addi v1 c0_i32_1
  let c256_i32 : BitVec 32 := 256#32
  let v3 : BitVec 32 := Scalar.muli v2 c256_i32
  let v4 : BitVec 32 := v3
  let v109 : Index := Scalar.indexCast v4
  let c0_68 : Index := 0#32
  ![v109.toNat, 0]
def k0_off3 (c0_i32_162 : BitVec 32) : Fin 2 → Nat :=
  let c0_i32_161 : BitVec 32 := 0#32
  let c16_i32 : BitVec 32 := 16#32
  let v389 : BitVec 32 := Scalar.muli c0_i32_161 c16_i32
  let v390 : BitVec 32 := Scalar.addi v389 c0_i32_162
  let c0_i32_187 : BitVec 32 := 0#32
  let v422 : BitVec 1 := Scalar.cmpi .sgt v390 c0_i32_187
  let v423 : BitVec 32 := Scalar.extui v422
  let c0_i32_188 : BitVec 32 := 0#32
  let v424 : BitVec 1 := Scalar.cmpi .slt v390 c0_i32_188
  let v425 : BitVec 32 := Scalar.extui v424
  let v426 : BitVec 32 := Scalar.subi v423 v425
  let c16_i32_186 : BitVec 32 := 16#32
  let c0_i32_189 : BitVec 32 := 0#32
  let v427 : BitVec 1 := Scalar.cmpi .sgt c16_i32_186 c0_i32_189
  let v428 : BitVec 32 := Scalar.extui v427
  let c0_i32_190 : BitVec 32 := 0#32
  let v429 : BitVec 1 := Scalar.cmpi .slt c16_i32_186 c0_i32_190
  let v430 : BitVec 32 := Scalar.extui v429
  let v431 : BitVec 32 := Scalar.subi v428 v430
  let v432 : BitVec 1 := Scalar.cmpi .ne v426 v431
  let v433 : BitVec 32 := Scalar.remsi v390 c16_i32_186
  let c0_i32_191 : BitVec 32 := 0#32
  let v434 : BitVec 1 := Scalar.cmpi .ne v433 c0_i32_191
  let v435 : BitVec 1 := Scalar.andi v432 v434
  let v421 : BitVec 32 := Scalar.divsi v390 c16_i32_186
  let c1_i32_192 : BitVec 32 := 1#32
  let v436 : BitVec 32 := Scalar.subi v421 c1_i32_192
  let v437 : BitVec 32 := Scalar.select v435 v436 v421
  let c1_i32_457 : BitVec 32 := 1#32
  let c16_i32_298 : BitVec 32 := 16#32
  let c0_i32_299 : BitVec 32 := 0#32
  let v693 : BitVec 1 := Scalar.cmpi .eq c16_i32_298 c0_i32_299
  let c1_i32_300 : BitVec 32 := 1#32
  let v694 : BitVec 32 := Scalar.select v693 c1_i32_300 c16_i32_298
  let v695 : BitVec 32 := Scalar.remsi v390 v694
  let c0_i32_302 : BitVec 32 := 0#32
  let v697 : BitVec 1 := Scalar.cmpi .slt v695 c0_i32_302
  let c0_i32_303 : BitVec 32 := 0#32
  let v698 : BitVec 1 := Scalar.cmpi .slt v694 c0_i32_303
  let v699 : BitVec 1 := Scalar.xori v697 v698
  let c0_i32_301 : BitVec 32 := 0#32
  let v696 : BitVec 1 := Scalar.cmpi .ne v695 c0_i32_301
  let v700 : BitVec 1 := Scalar.andi v699 v696
  let v701 : BitVec 32 := Scalar.addi v695 v694
  let v702 : BitVec 32 := Scalar.select v700 v701 v695
  let c128_i32_304 : BitVec 32 := 128#32
  let v703 : BitVec 32 := Scalar.muli v702 c128_i32_304
  let v917 : BitVec 32 := Scalar.muli c1_i32_457 v703
  let v918 : BitVec 32 := Scalar.addi v437 v917
  let v981 : Index := Scalar.indexCast v918
  let c0_489 : Index := 0#32
  ![v981.toNat, 0]
def k0_off4 (c0_i32_162 : BitVec 32) : Fin 2 → Nat :=
  let c0_i32_161 : BitVec 32 := 0#32
  let c16_i32 : BitVec 32 := 16#32
  let v389 : BitVec 32 := Scalar.muli c0_i32_161 c16_i32
  let v390 : BitVec 32 := Scalar.addi v389 c0_i32_162
  let c0_i32_187 : BitVec 32 := 0#32
  let v422 : BitVec 1 := Scalar.cmpi .sgt v390 c0_i32_187
  let v423 : BitVec 32 := Scalar.extui v422
  let c0_i32_188 : BitVec 32 := 0#32
  let v424 : BitVec 1 := Scalar.cmpi .slt v390 c0_i32_188
  let v425 : BitVec 32 := Scalar.extui v424
  let v426 : BitVec 32 := Scalar.subi v423 v425
  let c16_i32_186 : BitVec 32 := 16#32
  let c0_i32_189 : BitVec 32 := 0#32
  let v427 : BitVec 1 := Scalar.cmpi .sgt c16_i32_186 c0_i32_189
  let v428 : BitVec 32 := Scalar.extui v427
  let c0_i32_190 : BitVec 32 := 0#32
  let v429 : BitVec 1 := Scalar.cmpi .slt c16_i32_186 c0_i32_190
  let v430 : BitVec 32 := Scalar.extui v429
  let v431 : BitVec 32 := Scalar.subi v428 v430
  let v432 : BitVec 1 := Scalar.cmpi .ne v426 v431
  let v433 : BitVec 32 := Scalar.remsi v390 c16_i32_186
  let c0_i32_191 : BitVec 32 := 0#32
  let v434 : BitVec 1 := Scalar.cmpi .ne v433 c0_i32_191
  let v435 : BitVec 1 := Scalar.andi v432 v434
  let v421 : BitVec 32 := Scalar.divsi v390 c16_i32_186
  let c1_i32_192 : BitVec 32 := 1#32
  let v436 : BitVec 32 := Scalar.subi v421 c1_i32_192
  let v437 : BitVec 32 := Scalar.select v435 v436 v421
  let c1_i32_473 : BitVec 32 := 1#32
  let c1792_i32 : BitVec 32 := 1792#32
  let c0_i32_411 : BitVec 32 := 0#32
  let c16_i32_298 : BitVec 32 := 16#32
  let c0_i32_299 : BitVec 32 := 0#32
  let v693 : BitVec 1 := Scalar.cmpi .eq c16_i32_298 c0_i32_299
  let c1_i32_300 : BitVec 32 := 1#32
  let v694 : BitVec 32 := Scalar.select v693 c1_i32_300 c16_i32_298
  let v695 : BitVec 32 := Scalar.remsi v390 v694
  let c0_i32_302 : BitVec 32 := 0#32
  let v697 : BitVec 1 := Scalar.cmpi .slt v695 c0_i32_302
  let c0_i32_303 : BitVec 32 := 0#32
  let v698 : BitVec 1 := Scalar.cmpi .slt v694 c0_i32_303
  let v699 : BitVec 1 := Scalar.xori v697 v698
  let c0_i32_301 : BitVec 32 := 0#32
  let v696 : BitVec 1 := Scalar.cmpi .ne v695 c0_i32_301
  let v700 : BitVec 1 := Scalar.andi v699 v696
  let v701 : BitVec 32 := Scalar.addi v695 v694
  let v702 : BitVec 32 := Scalar.select v700 v701 v695
  let c128_i32_304 : BitVec 32 := 128#32
  let v703 : BitVec 32 := Scalar.muli v702 c128_i32_304
  let c64_i32_410 : BitVec 32 := 64#32
  let v869 : BitVec 32 := Scalar.subi v703 c64_i32_410
  let v870 : BitVec 32 := Scalar.maxsi c0_i32_411 v869
  let v871 : BitVec 32 := Scalar.minsi c1792_i32 v870
  let v949 : BitVec 32 := Scalar.muli c1_i32_473 v871
  let v950 : BitVec 32 := Scalar.addi v437 v949
  let v1029 : Index := Scalar.indexCast v950
  let c0_505 : Index := 0#32
  ![v1029.toNat, 0]
def k0_off5 (c0_i32_162 : BitVec 32) (c16_i32_298 : BitVec 32) (c1792_i32 : BitVec 32) : Fin 3 → Nat :=
  let c0_i32_161 : BitVec 32 := 0#32
  let c16_i32 : BitVec 32 := 16#32
  let v389 : BitVec 32 := Scalar.muli c0_i32_161 c16_i32
  let v390 : BitVec 32 := Scalar.addi v389 c0_i32_162
  let c0_i32_299 : BitVec 32 := 0#32
  let v693 : BitVec 1 := Scalar.cmpi .eq c16_i32_298 c0_i32_299
  let c1_i32_300 : BitVec 32 := 1#32
  let v694 : BitVec 32 := Scalar.select v693 c1_i32_300 c16_i32_298
  let v695 : BitVec 32 := Scalar.remsi v390 v694
  let c0_i32_302 : BitVec 32 := 0#32
  let v697 : BitVec 1 := Scalar.cmpi .slt v695 c0_i32_302
  let c0_i32_303 : BitVec 32 := 0#32
  let v698 : BitVec 1 := Scalar.cmpi .slt v694 c0_i32_303
  let v699 : BitVec 1 := Scalar.xori v697 v698
  let c0_i32_301 : BitVec 32 := 0#32
  let v696 : BitVec 1 := Scalar.cmpi .ne v695 c0_i32_301
  let v700 : BitVec 1 := Scalar.andi v699 v696
  let v701 : BitVec 32 := Scalar.addi v695 v694
  let v702 : BitVec 32 := Scalar.select v700 v701 v695
  let c128_i32_304 : BitVec 32 := 128#32
  let v703 : BitVec 32 := Scalar.muli v702 c128_i32_304
  let c0_i32_411 : BitVec 32 := 0#32
  let c64_i32_410 : BitVec 32 := 64#32
  let v869 : BitVec 32 := Scalar.subi v703 c64_i32_410
  let v870 : BitVec 32 := Scalar.maxsi c0_i32_411 v869
  let v871 : BitVec 32 := Scalar.minsi c1792_i32 v870
  let v1141 : BitVec 32 := Scalar.subi v703 v871
  let c0_i32_554 : BitVec 32 := 0#32
  let v1143 : BitVec 1 := Scalar.cmpi .sgt v1141 c0_i32_554
  let v1144 : BitVec 32 := Scalar.extui v1143
  let c0_i32_555 : BitVec 32 := 0#32
  let v1145 : BitVec 1 := Scalar.cmpi .slt v1141 c0_i32_555
  let v1146 : BitVec 32 := Scalar.extui v1145
  let v1147 : BitVec 32 := Scalar.subi v1144 v1146
  let c64_i32_553 : BitVec 32 := 64#32
  let c0_i32_556 : BitVec 32 := 0#32
  let v1148 : BitVec 1 := Scalar.cmpi .sgt c64_i32_553 c0_i32_556
  let v1149 : BitVec 32 := Scalar.extui v1148
  let c0_i32_557 : BitVec 32 := 0#32
  let v1150 : BitVec 1 := Scalar.cmpi .slt c64_i32_553 c0_i32_557
  let v1151 : BitVec 32 := Scalar.extui v1150
  let v1152 : BitVec 32 := Scalar.subi v1149 v1151
  let v1153 : BitVec 1 := Scalar.cmpi .ne v1147 v1152
  let v1154 : BitVec 32 := Scalar.remsi v1141 c64_i32_553
  let c0_i32_558 : BitVec 32 := 0#32
  let v1155 : BitVec 1 := Scalar.cmpi .ne v1154 c0_i32_558
  let v1156 : BitVec 1 := Scalar.andi v1153 v1155
  let v1142 : BitVec 32 := Scalar.divsi v1141 c64_i32_553
  let c1_i32_559 : BitVec 32 := 1#32
  let v1157 : BitVec 32 := Scalar.subi v1142 c1_i32_559
  let v1158 : BitVec 32 := Scalar.select v1156 v1157 v1142
  let v1159 : Index := Scalar.indexCast v1158
  let c0_560 : Index := 0#32
  let c0_561 : Index := 0#32
  ![v1159.toNat, 0, 0]
def k0_off5_at (r : Fin 32) : BitVec 32 × BitVec 32 × BitVec 32 :=
  if r.val < 16 then
    if r.val < 8 then
      if r.val < 4 then
        if r.val < 2 then
          if r.val < 1 then
            (0#32, 16#32, 1792#32)
          else
            (1#32, 16#32, 1792#32)
        else
          if r.val < 3 then
            (2#32, 16#32, 1792#32)
          else
            (3#32, 16#32, 1792#32)
      else
        if r.val < 6 then
          if r.val < 5 then
            (4#32, 16#32, 1792#32)
          else
            (5#32, 16#32, 1792#32)
        else
          if r.val < 7 then
            (6#32, 16#32, 1792#32)
          else
            (7#32, 16#32, 1792#32)
    else
      if r.val < 12 then
        if r.val < 10 then
          if r.val < 9 then
            (8#32, 16#32, 1792#32)
          else
            (9#32, 16#32, 1792#32)
        else
          if r.val < 11 then
            (10#32, 16#32, 1792#32)
          else
            (11#32, 16#32, 1792#32)
      else
        if r.val < 14 then
          if r.val < 13 then
            (12#32, 16#32, 1792#32)
          else
            (13#32, 16#32, 1792#32)
        else
          if r.val < 15 then
            (14#32, 16#32, 1792#32)
          else
            (15#32, 16#32, 1792#32)
  else
    if r.val < 24 then
      if r.val < 20 then
        if r.val < 18 then
          if r.val < 17 then
            (0#32, 4#32, 256#32)
          else
            (1#32, 4#32, 256#32)
        else
          if r.val < 19 then
            (2#32, 4#32, 256#32)
          else
            (3#32, 4#32, 256#32)
      else
        if r.val < 22 then
          if r.val < 21 then
            (4#32, 4#32, 256#32)
          else
            (5#32, 4#32, 256#32)
        else
          if r.val < 23 then
            (6#32, 4#32, 256#32)
          else
            (7#32, 4#32, 256#32)
    else
      if r.val < 28 then
        if r.val < 26 then
          if r.val < 25 then
            (8#32, 4#32, 256#32)
          else
            (9#32, 4#32, 256#32)
        else
          if r.val < 27 then
            (10#32, 4#32, 256#32)
          else
            (11#32, 4#32, 256#32)
      else
        if r.val < 30 then
          if r.val < 29 then
            (12#32, 4#32, 256#32)
          else
            (13#32, 4#32, 256#32)
        else
          if r.val < 31 then
            (14#32, 4#32, 256#32)
          else
            (15#32, 4#32, 256#32)
def k0_off6 (c0_i32_162 : BitVec 32) : Fin 3 → Nat :=
  let c0_745 : Index := 0#32
  let c0_i32_161 : BitVec 32 := 0#32
  let c16_i32 : BitVec 32 := 16#32
  let v389 : BitVec 32 := Scalar.muli c0_i32_161 c16_i32
  let v390 : BitVec 32 := Scalar.addi v389 c0_i32_162
  let c0_i32_187 : BitVec 32 := 0#32
  let v422 : BitVec 1 := Scalar.cmpi .sgt v390 c0_i32_187
  let v423 : BitVec 32 := Scalar.extui v422
  let c0_i32_188 : BitVec 32 := 0#32
  let v424 : BitVec 1 := Scalar.cmpi .slt v390 c0_i32_188
  let v425 : BitVec 32 := Scalar.extui v424
  let v426 : BitVec 32 := Scalar.subi v423 v425
  let c16_i32_186 : BitVec 32 := 16#32
  let c0_i32_189 : BitVec 32 := 0#32
  let v427 : BitVec 1 := Scalar.cmpi .sgt c16_i32_186 c0_i32_189
  let v428 : BitVec 32 := Scalar.extui v427
  let c0_i32_190 : BitVec 32 := 0#32
  let v429 : BitVec 1 := Scalar.cmpi .slt c16_i32_186 c0_i32_190
  let v430 : BitVec 32 := Scalar.extui v429
  let v431 : BitVec 32 := Scalar.subi v428 v430
  let v432 : BitVec 1 := Scalar.cmpi .ne v426 v431
  let v433 : BitVec 32 := Scalar.remsi v390 c16_i32_186
  let c0_i32_191 : BitVec 32 := 0#32
  let v434 : BitVec 1 := Scalar.cmpi .ne v433 c0_i32_191
  let v435 : BitVec 1 := Scalar.andi v432 v434
  let v421 : BitVec 32 := Scalar.divsi v390 c16_i32_186
  let c1_i32_192 : BitVec 32 := 1#32
  let v436 : BitVec 32 := Scalar.subi v421 c1_i32_192
  let v437 : BitVec 32 := Scalar.select v435 v436 v421
  let c1_i32_457 : BitVec 32 := 1#32
  let c16_i32_298 : BitVec 32 := 16#32
  let c0_i32_299 : BitVec 32 := 0#32
  let v693 : BitVec 1 := Scalar.cmpi .eq c16_i32_298 c0_i32_299
  let c1_i32_300 : BitVec 32 := 1#32
  let v694 : BitVec 32 := Scalar.select v693 c1_i32_300 c16_i32_298
  let v695 : BitVec 32 := Scalar.remsi v390 v694
  let c0_i32_302 : BitVec 32 := 0#32
  let v697 : BitVec 1 := Scalar.cmpi .slt v695 c0_i32_302
  let c0_i32_303 : BitVec 32 := 0#32
  let v698 : BitVec 1 := Scalar.cmpi .slt v694 c0_i32_303
  let v699 : BitVec 1 := Scalar.xori v697 v698
  let c0_i32_301 : BitVec 32 := 0#32
  let v696 : BitVec 1 := Scalar.cmpi .ne v695 c0_i32_301
  let v700 : BitVec 1 := Scalar.andi v699 v696
  let v701 : BitVec 32 := Scalar.addi v695 v694
  let v702 : BitVec 32 := Scalar.select v700 v701 v695
  let c128_i32_304 : BitVec 32 := 128#32
  let v703 : BitVec 32 := Scalar.muli v702 c128_i32_304
  let v917 : BitVec 32 := Scalar.muli c1_i32_457 v703
  let v918 : BitVec 32 := Scalar.addi v437 v917
  let v1669 : Index := Scalar.indexCast v918
  let c0_746 : Index := 0#32
  ![0, v1669.toNat, 0]
def k0_mult9 : BitVec 32 :=
  let c0_i32_810 : BitVec 32 := 0#32
  let c8_i32_811 : BitVec 32 := 8#32
  let v1861 : BitVec 32 := Scalar.muli c0_i32_810 c8_i32_811
  let c0_i32_812 : BitVec 32 := 0#32
  let v1862 : BitVec 32 := Scalar.addi v1861 c0_i32_812
  let c256_i32_813 : BitVec 32 := 256#32
  let v1863 : BitVec 32 := Scalar.muli v1862 c256_i32_813
  v1863
def k0_mult10 : BitVec 32 :=
  let c0_i32_810 : BitVec 32 := 0#32
  let c8_i32_814 : BitVec 32 := 8#32
  let v1865 : BitVec 32 := Scalar.muli c0_i32_810 c8_i32_814
  let c1_i32_815 : BitVec 32 := 1#32
  let v1866 : BitVec 32 := Scalar.addi v1865 c1_i32_815
  let c256_i32_816 : BitVec 32 := 256#32
  let v1867 : BitVec 32 := Scalar.muli v1866 c256_i32_816
  v1867
def k0_mult11 : BitVec 32 :=
  let c0_i32_810 : BitVec 32 := 0#32
  let c8_i32_817 : BitVec 32 := 8#32
  let v1869 : BitVec 32 := Scalar.muli c0_i32_810 c8_i32_817
  let c2_i32_818 : BitVec 32 := 2#32
  let v1870 : BitVec 32 := Scalar.addi v1869 c2_i32_818
  let c256_i32_819 : BitVec 32 := 256#32
  let v1871 : BitVec 32 := Scalar.muli v1870 c256_i32_819
  v1871
def k0_mult12 : BitVec 32 :=
  let c0_i32_810 : BitVec 32 := 0#32
  let c8_i32_820 : BitVec 32 := 8#32
  let v1873 : BitVec 32 := Scalar.muli c0_i32_810 c8_i32_820
  let c3_i32_821 : BitVec 32 := 3#32
  let v1874 : BitVec 32 := Scalar.addi v1873 c3_i32_821
  let c256_i32_822 : BitVec 32 := 256#32
  let v1875 : BitVec 32 := Scalar.muli v1874 c256_i32_822
  v1875
def k0_mult13 : BitVec 32 :=
  let c0_i32_810 : BitVec 32 := 0#32
  let c8_i32_823 : BitVec 32 := 8#32
  let v1877 : BitVec 32 := Scalar.muli c0_i32_810 c8_i32_823
  let c4_i32_824 : BitVec 32 := 4#32
  let v1878 : BitVec 32 := Scalar.addi v1877 c4_i32_824
  let c256_i32_825 : BitVec 32 := 256#32
  let v1879 : BitVec 32 := Scalar.muli v1878 c256_i32_825
  v1879
def k0_mult14 : BitVec 32 :=
  let c0_i32_810 : BitVec 32 := 0#32
  let c8_i32_826 : BitVec 32 := 8#32
  let v1881 : BitVec 32 := Scalar.muli c0_i32_810 c8_i32_826
  let c5_i32_827 : BitVec 32 := 5#32
  let v1882 : BitVec 32 := Scalar.addi v1881 c5_i32_827
  let c256_i32_828 : BitVec 32 := 256#32
  let v1883 : BitVec 32 := Scalar.muli v1882 c256_i32_828
  v1883
def k0_mult15 : BitVec 32 :=
  let c0_i32_810 : BitVec 32 := 0#32
  let c8_i32_829 : BitVec 32 := 8#32
  let v1885 : BitVec 32 := Scalar.muli c0_i32_810 c8_i32_829
  let c6_i32_830 : BitVec 32 := 6#32
  let v1886 : BitVec 32 := Scalar.addi v1885 c6_i32_830
  let c256_i32_831 : BitVec 32 := 256#32
  let v1887 : BitVec 32 := Scalar.muli v1886 c256_i32_831
  v1887
def k0_mult16 : BitVec 32 :=
  let c0_i32_810 : BitVec 32 := 0#32
  let c8_i32_832 : BitVec 32 := 8#32
  let v1889 : BitVec 32 := Scalar.muli c0_i32_810 c8_i32_832
  let c7_i32_833 : BitVec 32 := 7#32
  let v1890 : BitVec 32 := Scalar.addi v1889 c7_i32_833
  let c256_i32_834 : BitVec 32 := 256#32
  let v1891 : BitVec 32 := Scalar.muli v1890 c256_i32_834
  v1891
def k0_off7 (c0_i32_987 : BitVec 32) : Fin 2 → Nat :=
  let c0_i32_985 : BitVec 32 := 0#32
  let c16_i32_986 : BitVec 32 := 16#32
  let v2249 : BitVec 32 := Scalar.muli c0_i32_985 c16_i32_986
  let v2250 : BitVec 32 := Scalar.addi v2249 c0_i32_987
  let c0_i32_1019 : BitVec 32 := 0#32
  let v2282 : BitVec 1 := Scalar.cmpi .sgt v2250 c0_i32_1019
  let v2283 : BitVec 32 := Scalar.extui v2282
  let c0_i32_1020 : BitVec 32 := 0#32
  let v2284 : BitVec 1 := Scalar.cmpi .slt v2250 c0_i32_1020
  let v2285 : BitVec 32 := Scalar.extui v2284
  let v2286 : BitVec 32 := Scalar.subi v2283 v2285
  let c4_i32_1018 : BitVec 32 := 4#32
  let c0_i32_1021 : BitVec 32 := 0#32
  let v2287 : BitVec 1 := Scalar.cmpi .sgt c4_i32_1018 c0_i32_1021
  let v2288 : BitVec 32 := Scalar.extui v2287
  let c0_i32_1022 : BitVec 32 := 0#32
  let v2289 : BitVec 1 := Scalar.cmpi .slt c4_i32_1018 c0_i32_1022
  let v2290 : BitVec 32 := Scalar.extui v2289
  let v2291 : BitVec 32 := Scalar.subi v2288 v2290
  let v2292 : BitVec 1 := Scalar.cmpi .ne v2286 v2291
  let v2293 : BitVec 32 := Scalar.remsi v2250 c4_i32_1018
  let c0_i32_1023 : BitVec 32 := 0#32
  let v2294 : BitVec 1 := Scalar.cmpi .ne v2293 c0_i32_1023
  let v2295 : BitVec 1 := Scalar.andi v2292 v2294
  let v2281 : BitVec 32 := Scalar.divsi v2250 c4_i32_1018
  let c1_i32_1024 : BitVec 32 := 1#32
  let v2296 : BitVec 32 := Scalar.subi v2281 c1_i32_1024
  let v2297 : BitVec 32 := Scalar.select v2295 v2296 v2281
  let c4_i32_1290 : BitVec 32 := 4#32
  let c4_i32_1130 : BitVec 32 := 4#32
  let c0_i32_1131 : BitVec 32 := 0#32
  let v2553 : BitVec 1 := Scalar.cmpi .eq c4_i32_1130 c0_i32_1131
  let c1_i32_1132 : BitVec 32 := 1#32
  let v2554 : BitVec 32 := Scalar.select v2553 c1_i32_1132 c4_i32_1130
  let v2555 : BitVec 32 := Scalar.remsi v2250 v2554
  let c0_i32_1134 : BitVec 32 := 0#32
  let v2557 : BitVec 1 := Scalar.cmpi .slt v2555 c0_i32_1134
  let c0_i32_1135 : BitVec 32 := 0#32
  let v2558 : BitVec 1 := Scalar.cmpi .slt v2554 c0_i32_1135
  let v2559 : BitVec 1 := Scalar.xori v2557 v2558
  let c0_i32_1133 : BitVec 32 := 0#32
  let v2556 : BitVec 1 := Scalar.cmpi .ne v2555 c0_i32_1133
  let v2560 : BitVec 1 := Scalar.andi v2559 v2556
  let v2561 : BitVec 32 := Scalar.addi v2555 v2554
  let v2562 : BitVec 32 := Scalar.select v2560 v2561 v2555
  let c128_i32_1136 : BitVec 32 := 128#32
  let v2563 : BitVec 32 := Scalar.muli v2562 c128_i32_1136
  let v2777 : BitVec 32 := Scalar.muli c4_i32_1290 v2563
  let v2778 : BitVec 32 := Scalar.addi v2297 v2777
  let v2841 : Index := Scalar.indexCast v2778
  let c0_1322 : Index := 0#32
  ![v2841.toNat, 0]
def k0_off8 (c0_i32_987 : BitVec 32) : Fin 2 → Nat :=
  let c0_i32_985 : BitVec 32 := 0#32
  let c16_i32_986 : BitVec 32 := 16#32
  let v2249 : BitVec 32 := Scalar.muli c0_i32_985 c16_i32_986
  let v2250 : BitVec 32 := Scalar.addi v2249 c0_i32_987
  let c0_i32_1019 : BitVec 32 := 0#32
  let v2282 : BitVec 1 := Scalar.cmpi .sgt v2250 c0_i32_1019
  let v2283 : BitVec 32 := Scalar.extui v2282
  let c0_i32_1020 : BitVec 32 := 0#32
  let v2284 : BitVec 1 := Scalar.cmpi .slt v2250 c0_i32_1020
  let v2285 : BitVec 32 := Scalar.extui v2284
  let v2286 : BitVec 32 := Scalar.subi v2283 v2285
  let c4_i32_1018 : BitVec 32 := 4#32
  let c0_i32_1021 : BitVec 32 := 0#32
  let v2287 : BitVec 1 := Scalar.cmpi .sgt c4_i32_1018 c0_i32_1021
  let v2288 : BitVec 32 := Scalar.extui v2287
  let c0_i32_1022 : BitVec 32 := 0#32
  let v2289 : BitVec 1 := Scalar.cmpi .slt c4_i32_1018 c0_i32_1022
  let v2290 : BitVec 32 := Scalar.extui v2289
  let v2291 : BitVec 32 := Scalar.subi v2288 v2290
  let v2292 : BitVec 1 := Scalar.cmpi .ne v2286 v2291
  let v2293 : BitVec 32 := Scalar.remsi v2250 c4_i32_1018
  let c0_i32_1023 : BitVec 32 := 0#32
  let v2294 : BitVec 1 := Scalar.cmpi .ne v2293 c0_i32_1023
  let v2295 : BitVec 1 := Scalar.andi v2292 v2294
  let v2281 : BitVec 32 := Scalar.divsi v2250 c4_i32_1018
  let c1_i32_1024 : BitVec 32 := 1#32
  let v2296 : BitVec 32 := Scalar.subi v2281 c1_i32_1024
  let v2297 : BitVec 32 := Scalar.select v2295 v2296 v2281
  let c4_i32_1306 : BitVec 32 := 4#32
  let c256_i32_1244 : BitVec 32 := 256#32
  let c0_i32_1243 : BitVec 32 := 0#32
  let c4_i32_1130 : BitVec 32 := 4#32
  let c0_i32_1131 : BitVec 32 := 0#32
  let v2553 : BitVec 1 := Scalar.cmpi .eq c4_i32_1130 c0_i32_1131
  let c1_i32_1132 : BitVec 32 := 1#32
  let v2554 : BitVec 32 := Scalar.select v2553 c1_i32_1132 c4_i32_1130
  let v2555 : BitVec 32 := Scalar.remsi v2250 v2554
  let c0_i32_1134 : BitVec 32 := 0#32
  let v2557 : BitVec 1 := Scalar.cmpi .slt v2555 c0_i32_1134
  let c0_i32_1135 : BitVec 32 := 0#32
  let v2558 : BitVec 1 := Scalar.cmpi .slt v2554 c0_i32_1135
  let v2559 : BitVec 1 := Scalar.xori v2557 v2558
  let c0_i32_1133 : BitVec 32 := 0#32
  let v2556 : BitVec 1 := Scalar.cmpi .ne v2555 c0_i32_1133
  let v2560 : BitVec 1 := Scalar.andi v2559 v2556
  let v2561 : BitVec 32 := Scalar.addi v2555 v2554
  let v2562 : BitVec 32 := Scalar.select v2560 v2561 v2555
  let c128_i32_1136 : BitVec 32 := 128#32
  let v2563 : BitVec 32 := Scalar.muli v2562 c128_i32_1136
  let c64_i32_1242 : BitVec 32 := 64#32
  let v2729 : BitVec 32 := Scalar.subi v2563 c64_i32_1242
  let v2730 : BitVec 32 := Scalar.maxsi c0_i32_1243 v2729
  let v2731 : BitVec 32 := Scalar.minsi c256_i32_1244 v2730
  let v2809 : BitVec 32 := Scalar.muli c4_i32_1306 v2731
  let v2810 : BitVec 32 := Scalar.addi v2297 v2809
  let v2889 : Index := Scalar.indexCast v2810
  let c0_1338 : Index := 0#32
  ![v2889.toNat, 0]
def k0_off9 (c0_i32_987 : BitVec 32) : Fin 3 → Nat :=
  let c1_1578 : Index := 1#32
  let c0_i32_985 : BitVec 32 := 0#32
  let c16_i32_986 : BitVec 32 := 16#32
  let v2249 : BitVec 32 := Scalar.muli c0_i32_985 c16_i32_986
  let v2250 : BitVec 32 := Scalar.addi v2249 c0_i32_987
  let c0_i32_1019 : BitVec 32 := 0#32
  let v2282 : BitVec 1 := Scalar.cmpi .sgt v2250 c0_i32_1019
  let v2283 : BitVec 32 := Scalar.extui v2282
  let c0_i32_1020 : BitVec 32 := 0#32
  let v2284 : BitVec 1 := Scalar.cmpi .slt v2250 c0_i32_1020
  let v2285 : BitVec 32 := Scalar.extui v2284
  let v2286 : BitVec 32 := Scalar.subi v2283 v2285
  let c4_i32_1018 : BitVec 32 := 4#32
  let c0_i32_1021 : BitVec 32 := 0#32
  let v2287 : BitVec 1 := Scalar.cmpi .sgt c4_i32_1018 c0_i32_1021
  let v2288 : BitVec 32 := Scalar.extui v2287
  let c0_i32_1022 : BitVec 32 := 0#32
  let v2289 : BitVec 1 := Scalar.cmpi .slt c4_i32_1018 c0_i32_1022
  let v2290 : BitVec 32 := Scalar.extui v2289
  let v2291 : BitVec 32 := Scalar.subi v2288 v2290
  let v2292 : BitVec 1 := Scalar.cmpi .ne v2286 v2291
  let v2293 : BitVec 32 := Scalar.remsi v2250 c4_i32_1018
  let c0_i32_1023 : BitVec 32 := 0#32
  let v2294 : BitVec 1 := Scalar.cmpi .ne v2293 c0_i32_1023
  let v2295 : BitVec 1 := Scalar.andi v2292 v2294
  let v2281 : BitVec 32 := Scalar.divsi v2250 c4_i32_1018
  let c1_i32_1024 : BitVec 32 := 1#32
  let v2296 : BitVec 32 := Scalar.subi v2281 c1_i32_1024
  let v2297 : BitVec 32 := Scalar.select v2295 v2296 v2281
  let c4_i32_1290 : BitVec 32 := 4#32
  let c4_i32_1130 : BitVec 32 := 4#32
  let c0_i32_1131 : BitVec 32 := 0#32
  let v2553 : BitVec 1 := Scalar.cmpi .eq c4_i32_1130 c0_i32_1131
  let c1_i32_1132 : BitVec 32 := 1#32
  let v2554 : BitVec 32 := Scalar.select v2553 c1_i32_1132 c4_i32_1130
  let v2555 : BitVec 32 := Scalar.remsi v2250 v2554
  let c0_i32_1134 : BitVec 32 := 0#32
  let v2557 : BitVec 1 := Scalar.cmpi .slt v2555 c0_i32_1134
  let c0_i32_1135 : BitVec 32 := 0#32
  let v2558 : BitVec 1 := Scalar.cmpi .slt v2554 c0_i32_1135
  let v2559 : BitVec 1 := Scalar.xori v2557 v2558
  let c0_i32_1133 : BitVec 32 := 0#32
  let v2556 : BitVec 1 := Scalar.cmpi .ne v2555 c0_i32_1133
  let v2560 : BitVec 1 := Scalar.andi v2559 v2556
  let v2561 : BitVec 32 := Scalar.addi v2555 v2554
  let v2562 : BitVec 32 := Scalar.select v2560 v2561 v2555
  let c128_i32_1136 : BitVec 32 := 128#32
  let v2563 : BitVec 32 := Scalar.muli v2562 c128_i32_1136
  let v2777 : BitVec 32 := Scalar.muli c4_i32_1290 v2563
  let v2778 : BitVec 32 := Scalar.addi v2297 v2777
  let v3529 : Index := Scalar.indexCast v2778
  let c0_1579 : Index := 0#32
  ![1, v3529.toNat, 0]
def k0_mult17 : BitVec 32 :=
  let c0_i32_1643 : BitVec 32 := 0#32
  let c8_i32_1644 : BitVec 32 := 8#32
  let v3721 : BitVec 32 := Scalar.muli c0_i32_1643 c8_i32_1644
  let c0_i32_1645 : BitVec 32 := 0#32
  let v3722 : BitVec 32 := Scalar.addi v3721 c0_i32_1645
  let c256_i32_1646 : BitVec 32 := 256#32
  let v3723 : BitVec 32 := Scalar.muli v3722 c256_i32_1646
  v3723
def k0_mult18 : BitVec 32 :=
  let c0_i32_1643 : BitVec 32 := 0#32
  let c8_i32_1647 : BitVec 32 := 8#32
  let v3725 : BitVec 32 := Scalar.muli c0_i32_1643 c8_i32_1647
  let c1_i32_1648 : BitVec 32 := 1#32
  let v3726 : BitVec 32 := Scalar.addi v3725 c1_i32_1648
  let c256_i32_1649 : BitVec 32 := 256#32
  let v3727 : BitVec 32 := Scalar.muli v3726 c256_i32_1649
  v3727
def k0_mult19 : BitVec 32 :=
  let c0_i32_1643 : BitVec 32 := 0#32
  let c8_i32_1650 : BitVec 32 := 8#32
  let v3729 : BitVec 32 := Scalar.muli c0_i32_1643 c8_i32_1650
  let c2_i32_1651 : BitVec 32 := 2#32
  let v3730 : BitVec 32 := Scalar.addi v3729 c2_i32_1651
  let c256_i32_1652 : BitVec 32 := 256#32
  let v3731 : BitVec 32 := Scalar.muli v3730 c256_i32_1652
  v3731
def k0_mult20 : BitVec 32 :=
  let c0_i32_1643 : BitVec 32 := 0#32
  let c8_i32_1653 : BitVec 32 := 8#32
  let v3733 : BitVec 32 := Scalar.muli c0_i32_1643 c8_i32_1653
  let c3_i32_1654 : BitVec 32 := 3#32
  let v3734 : BitVec 32 := Scalar.addi v3733 c3_i32_1654
  let c256_i32_1655 : BitVec 32 := 256#32
  let v3735 : BitVec 32 := Scalar.muli v3734 c256_i32_1655
  v3735
def k0_mult21 : BitVec 32 :=
  let c0_i32_1643 : BitVec 32 := 0#32
  let c8_i32_1656 : BitVec 32 := 8#32
  let v3737 : BitVec 32 := Scalar.muli c0_i32_1643 c8_i32_1656
  let c4_i32_1657 : BitVec 32 := 4#32
  let v3738 : BitVec 32 := Scalar.addi v3737 c4_i32_1657
  let c256_i32_1658 : BitVec 32 := 256#32
  let v3739 : BitVec 32 := Scalar.muli v3738 c256_i32_1658
  v3739
def k0_mult22 : BitVec 32 :=
  let c0_i32_1643 : BitVec 32 := 0#32
  let c8_i32_1659 : BitVec 32 := 8#32
  let v3741 : BitVec 32 := Scalar.muli c0_i32_1643 c8_i32_1659
  let c5_i32_1660 : BitVec 32 := 5#32
  let v3742 : BitVec 32 := Scalar.addi v3741 c5_i32_1660
  let c256_i32_1661 : BitVec 32 := 256#32
  let v3743 : BitVec 32 := Scalar.muli v3742 c256_i32_1661
  v3743
def k0_mult23 : BitVec 32 :=
  let c0_i32_1643 : BitVec 32 := 0#32
  let c8_i32_1662 : BitVec 32 := 8#32
  let v3745 : BitVec 32 := Scalar.muli c0_i32_1643 c8_i32_1662
  let c6_i32_1663 : BitVec 32 := 6#32
  let v3746 : BitVec 32 := Scalar.addi v3745 c6_i32_1663
  let c256_i32_1664 : BitVec 32 := 256#32
  let v3747 : BitVec 32 := Scalar.muli v3746 c256_i32_1664
  v3747
def k0_mult24 : BitVec 32 :=
  let c0_i32_1643 : BitVec 32 := 0#32
  let c8_i32_1665 : BitVec 32 := 8#32
  let v3749 : BitVec 32 := Scalar.muli c0_i32_1643 c8_i32_1665
  let c7_i32_1666 : BitVec 32 := 7#32
  let v3750 : BitVec 32 := Scalar.addi v3749 c7_i32_1666
  let c256_i32_1667 : BitVec 32 := 256#32
  let v3751 : BitVec 32 := Scalar.muli v3750 c256_i32_1667
  v3751
def k0_off10 (c0_i32_1820 : BitVec 32) : Fin 2 → Nat :=
  let c0_i32_1818 : BitVec 32 := 0#32
  let c16_i32_1819 : BitVec 32 := 16#32
  let v4109 : BitVec 32 := Scalar.muli c0_i32_1818 c16_i32_1819
  let v4110 : BitVec 32 := Scalar.addi v4109 c0_i32_1820
  let c0_i32_1852 : BitVec 32 := 0#32
  let v4142 : BitVec 1 := Scalar.cmpi .sgt v4110 c0_i32_1852
  let v4143 : BitVec 32 := Scalar.extui v4142
  let c0_i32_1853 : BitVec 32 := 0#32
  let v4144 : BitVec 1 := Scalar.cmpi .slt v4110 c0_i32_1853
  let v4145 : BitVec 32 := Scalar.extui v4144
  let v4146 : BitVec 32 := Scalar.subi v4143 v4145
  let c1_i32_1851 : BitVec 32 := 1#32
  let c0_i32_1854 : BitVec 32 := 0#32
  let v4147 : BitVec 1 := Scalar.cmpi .sgt c1_i32_1851 c0_i32_1854
  let v4148 : BitVec 32 := Scalar.extui v4147
  let c0_i32_1855 : BitVec 32 := 0#32
  let v4149 : BitVec 1 := Scalar.cmpi .slt c1_i32_1851 c0_i32_1855
  let v4150 : BitVec 32 := Scalar.extui v4149
  let v4151 : BitVec 32 := Scalar.subi v4148 v4150
  let v4152 : BitVec 1 := Scalar.cmpi .ne v4146 v4151
  let v4153 : BitVec 32 := Scalar.remsi v4110 c1_i32_1851
  let c0_i32_1856 : BitVec 32 := 0#32
  let v4154 : BitVec 1 := Scalar.cmpi .ne v4153 c0_i32_1856
  let v4155 : BitVec 1 := Scalar.andi v4152 v4154
  let v4141 : BitVec 32 := Scalar.divsi v4110 c1_i32_1851
  let c1_i32_1857 : BitVec 32 := 1#32
  let v4156 : BitVec 32 := Scalar.subi v4141 c1_i32_1857
  let v4157 : BitVec 32 := Scalar.select v4155 v4156 v4141
  let c16_i32_2123 : BitVec 32 := 16#32
  let c1_i32_1963 : BitVec 32 := 1#32
  let c0_i32_1964 : BitVec 32 := 0#32
  let v4413 : BitVec 1 := Scalar.cmpi .eq c1_i32_1963 c0_i32_1964
  let c1_i32_1965 : BitVec 32 := 1#32
  let v4414 : BitVec 32 := Scalar.select v4413 c1_i32_1965 c1_i32_1963
  let v4415 : BitVec 32 := Scalar.remsi v4110 v4414
  let c0_i32_1967 : BitVec 32 := 0#32
  let v4417 : BitVec 1 := Scalar.cmpi .slt v4415 c0_i32_1967
  let c0_i32_1968 : BitVec 32 := 0#32
  let v4418 : BitVec 1 := Scalar.cmpi .slt v4414 c0_i32_1968
  let v4419 : BitVec 1 := Scalar.xori v4417 v4418
  let c0_i32_1966 : BitVec 32 := 0#32
  let v4416 : BitVec 1 := Scalar.cmpi .ne v4415 c0_i32_1966
  let v4420 : BitVec 1 := Scalar.andi v4419 v4416
  let v4421 : BitVec 32 := Scalar.addi v4415 v4414
  let v4422 : BitVec 32 := Scalar.select v4420 v4421 v4415
  let c128_i32_1969 : BitVec 32 := 128#32
  let v4423 : BitVec 32 := Scalar.muli v4422 c128_i32_1969
  let v4637 : BitVec 32 := Scalar.muli c16_i32_2123 v4423
  let v4638 : BitVec 32 := Scalar.addi v4157 v4637
  let v4701 : Index := Scalar.indexCast v4638
  let c0_2155 : Index := 0#32
  ![v4701.toNat, 0]
def k0_off11 (c0_i32_1820 : BitVec 32) : Fin 2 → Nat :=
  let c0_i32_1818 : BitVec 32 := 0#32
  let c16_i32_1819 : BitVec 32 := 16#32
  let v4109 : BitVec 32 := Scalar.muli c0_i32_1818 c16_i32_1819
  let v4110 : BitVec 32 := Scalar.addi v4109 c0_i32_1820
  let c0_i32_1852 : BitVec 32 := 0#32
  let v4142 : BitVec 1 := Scalar.cmpi .sgt v4110 c0_i32_1852
  let v4143 : BitVec 32 := Scalar.extui v4142
  let c0_i32_1853 : BitVec 32 := 0#32
  let v4144 : BitVec 1 := Scalar.cmpi .slt v4110 c0_i32_1853
  let v4145 : BitVec 32 := Scalar.extui v4144
  let v4146 : BitVec 32 := Scalar.subi v4143 v4145
  let c1_i32_1851 : BitVec 32 := 1#32
  let c0_i32_1854 : BitVec 32 := 0#32
  let v4147 : BitVec 1 := Scalar.cmpi .sgt c1_i32_1851 c0_i32_1854
  let v4148 : BitVec 32 := Scalar.extui v4147
  let c0_i32_1855 : BitVec 32 := 0#32
  let v4149 : BitVec 1 := Scalar.cmpi .slt c1_i32_1851 c0_i32_1855
  let v4150 : BitVec 32 := Scalar.extui v4149
  let v4151 : BitVec 32 := Scalar.subi v4148 v4150
  let v4152 : BitVec 1 := Scalar.cmpi .ne v4146 v4151
  let v4153 : BitVec 32 := Scalar.remsi v4110 c1_i32_1851
  let c0_i32_1856 : BitVec 32 := 0#32
  let v4154 : BitVec 1 := Scalar.cmpi .ne v4153 c0_i32_1856
  let v4155 : BitVec 1 := Scalar.andi v4152 v4154
  let v4141 : BitVec 32 := Scalar.divsi v4110 c1_i32_1851
  let c1_i32_1857 : BitVec 32 := 1#32
  let v4156 : BitVec 32 := Scalar.subi v4141 c1_i32_1857
  let v4157 : BitVec 32 := Scalar.select v4155 v4156 v4141
  let c16_i32_2139 : BitVec 32 := 16#32
  let c0_i32_2077 : BitVec 32 := 0#32
  let c0_i32_2076 : BitVec 32 := 0#32
  let c1_i32_1963 : BitVec 32 := 1#32
  let c0_i32_1964 : BitVec 32 := 0#32
  let v4413 : BitVec 1 := Scalar.cmpi .eq c1_i32_1963 c0_i32_1964
  let c1_i32_1965 : BitVec 32 := 1#32
  let v4414 : BitVec 32 := Scalar.select v4413 c1_i32_1965 c1_i32_1963
  let v4415 : BitVec 32 := Scalar.remsi v4110 v4414
  let c0_i32_1967 : BitVec 32 := 0#32
  let v4417 : BitVec 1 := Scalar.cmpi .slt v4415 c0_i32_1967
  let c0_i32_1968 : BitVec 32 := 0#32
  let v4418 : BitVec 1 := Scalar.cmpi .slt v4414 c0_i32_1968
  let v4419 : BitVec 1 := Scalar.xori v4417 v4418
  let c0_i32_1966 : BitVec 32 := 0#32
  let v4416 : BitVec 1 := Scalar.cmpi .ne v4415 c0_i32_1966
  let v4420 : BitVec 1 := Scalar.andi v4419 v4416
  let v4421 : BitVec 32 := Scalar.addi v4415 v4414
  let v4422 : BitVec 32 := Scalar.select v4420 v4421 v4415
  let c128_i32_1969 : BitVec 32 := 128#32
  let v4423 : BitVec 32 := Scalar.muli v4422 c128_i32_1969
  let c64_i32_2075 : BitVec 32 := 64#32
  let v4589 : BitVec 32 := Scalar.subi v4423 c64_i32_2075
  let v4590 : BitVec 32 := Scalar.maxsi c0_i32_2076 v4589
  let v4591 : BitVec 32 := Scalar.minsi c0_i32_2077 v4590
  let v4669 : BitVec 32 := Scalar.muli c16_i32_2139 v4591
  let v4670 : BitVec 32 := Scalar.addi v4157 v4669
  let v4749 : Index := Scalar.indexCast v4670
  let c0_2171 : Index := 0#32
  ![v4749.toNat, 0]
def k0_off12 (c0_i32_1820 : BitVec 32) : Fin 3 → Nat :=
  let c0_i32_1818 : BitVec 32 := 0#32
  let c16_i32_1819 : BitVec 32 := 16#32
  let v4109 : BitVec 32 := Scalar.muli c0_i32_1818 c16_i32_1819
  let v4110 : BitVec 32 := Scalar.addi v4109 c0_i32_1820
  let c1_i32_1963 : BitVec 32 := 1#32
  let c0_i32_1964 : BitVec 32 := 0#32
  let v4413 : BitVec 1 := Scalar.cmpi .eq c1_i32_1963 c0_i32_1964
  let c1_i32_1965 : BitVec 32 := 1#32
  let v4414 : BitVec 32 := Scalar.select v4413 c1_i32_1965 c1_i32_1963
  let v4415 : BitVec 32 := Scalar.remsi v4110 v4414
  let c0_i32_1967 : BitVec 32 := 0#32
  let v4417 : BitVec 1 := Scalar.cmpi .slt v4415 c0_i32_1967
  let c0_i32_1968 : BitVec 32 := 0#32
  let v4418 : BitVec 1 := Scalar.cmpi .slt v4414 c0_i32_1968
  let v4419 : BitVec 1 := Scalar.xori v4417 v4418
  let c0_i32_1966 : BitVec 32 := 0#32
  let v4416 : BitVec 1 := Scalar.cmpi .ne v4415 c0_i32_1966
  let v4420 : BitVec 1 := Scalar.andi v4419 v4416
  let v4421 : BitVec 32 := Scalar.addi v4415 v4414
  let v4422 : BitVec 32 := Scalar.select v4420 v4421 v4415
  let c128_i32_1969 : BitVec 32 := 128#32
  let v4423 : BitVec 32 := Scalar.muli v4422 c128_i32_1969
  let c0_i32_2077 : BitVec 32 := 0#32
  let c0_i32_2076 : BitVec 32 := 0#32
  let c64_i32_2075 : BitVec 32 := 64#32
  let v4589 : BitVec 32 := Scalar.subi v4423 c64_i32_2075
  let v4590 : BitVec 32 := Scalar.maxsi c0_i32_2076 v4589
  let v4591 : BitVec 32 := Scalar.minsi c0_i32_2077 v4590
  let v4861 : BitVec 32 := Scalar.subi v4423 v4591
  let c0_i32_2220 : BitVec 32 := 0#32
  let v4863 : BitVec 1 := Scalar.cmpi .sgt v4861 c0_i32_2220
  let v4864 : BitVec 32 := Scalar.extui v4863
  let c0_i32_2221 : BitVec 32 := 0#32
  let v4865 : BitVec 1 := Scalar.cmpi .slt v4861 c0_i32_2221
  let v4866 : BitVec 32 := Scalar.extui v4865
  let v4867 : BitVec 32 := Scalar.subi v4864 v4866
  let c64_i32_2219 : BitVec 32 := 64#32
  let c0_i32_2222 : BitVec 32 := 0#32
  let v4868 : BitVec 1 := Scalar.cmpi .sgt c64_i32_2219 c0_i32_2222
  let v4869 : BitVec 32 := Scalar.extui v4868
  let c0_i32_2223 : BitVec 32 := 0#32
  let v4870 : BitVec 1 := Scalar.cmpi .slt c64_i32_2219 c0_i32_2223
  let v4871 : BitVec 32 := Scalar.extui v4870
  let v4872 : BitVec 32 := Scalar.subi v4869 v4871
  let v4873 : BitVec 1 := Scalar.cmpi .ne v4867 v4872
  let v4874 : BitVec 32 := Scalar.remsi v4861 c64_i32_2219
  let c0_i32_2224 : BitVec 32 := 0#32
  let v4875 : BitVec 1 := Scalar.cmpi .ne v4874 c0_i32_2224
  let v4876 : BitVec 1 := Scalar.andi v4873 v4875
  let v4862 : BitVec 32 := Scalar.divsi v4861 c64_i32_2219
  let c1_i32_2225 : BitVec 32 := 1#32
  let v4877 : BitVec 32 := Scalar.subi v4862 c1_i32_2225
  let v4878 : BitVec 32 := Scalar.select v4876 v4877 v4862
  let v4879 : Index := Scalar.indexCast v4878
  let c0_2226 : Index := 0#32
  let c0_2227 : Index := 0#32
  ![v4879.toNat, 0, 0]
def k0_off13 (c0_i32_1820 : BitVec 32) : Fin 3 → Nat :=
  let c2_2411 : Index := 2#32
  let c0_i32_1818 : BitVec 32 := 0#32
  let c16_i32_1819 : BitVec 32 := 16#32
  let v4109 : BitVec 32 := Scalar.muli c0_i32_1818 c16_i32_1819
  let v4110 : BitVec 32 := Scalar.addi v4109 c0_i32_1820
  let c0_i32_1852 : BitVec 32 := 0#32
  let v4142 : BitVec 1 := Scalar.cmpi .sgt v4110 c0_i32_1852
  let v4143 : BitVec 32 := Scalar.extui v4142
  let c0_i32_1853 : BitVec 32 := 0#32
  let v4144 : BitVec 1 := Scalar.cmpi .slt v4110 c0_i32_1853
  let v4145 : BitVec 32 := Scalar.extui v4144
  let v4146 : BitVec 32 := Scalar.subi v4143 v4145
  let c1_i32_1851 : BitVec 32 := 1#32
  let c0_i32_1854 : BitVec 32 := 0#32
  let v4147 : BitVec 1 := Scalar.cmpi .sgt c1_i32_1851 c0_i32_1854
  let v4148 : BitVec 32 := Scalar.extui v4147
  let c0_i32_1855 : BitVec 32 := 0#32
  let v4149 : BitVec 1 := Scalar.cmpi .slt c1_i32_1851 c0_i32_1855
  let v4150 : BitVec 32 := Scalar.extui v4149
  let v4151 : BitVec 32 := Scalar.subi v4148 v4150
  let v4152 : BitVec 1 := Scalar.cmpi .ne v4146 v4151
  let v4153 : BitVec 32 := Scalar.remsi v4110 c1_i32_1851
  let c0_i32_1856 : BitVec 32 := 0#32
  let v4154 : BitVec 1 := Scalar.cmpi .ne v4153 c0_i32_1856
  let v4155 : BitVec 1 := Scalar.andi v4152 v4154
  let v4141 : BitVec 32 := Scalar.divsi v4110 c1_i32_1851
  let c1_i32_1857 : BitVec 32 := 1#32
  let v4156 : BitVec 32 := Scalar.subi v4141 c1_i32_1857
  let v4157 : BitVec 32 := Scalar.select v4155 v4156 v4141
  let c16_i32_2123 : BitVec 32 := 16#32
  let c1_i32_1963 : BitVec 32 := 1#32
  let c0_i32_1964 : BitVec 32 := 0#32
  let v4413 : BitVec 1 := Scalar.cmpi .eq c1_i32_1963 c0_i32_1964
  let c1_i32_1965 : BitVec 32 := 1#32
  let v4414 : BitVec 32 := Scalar.select v4413 c1_i32_1965 c1_i32_1963
  let v4415 : BitVec 32 := Scalar.remsi v4110 v4414
  let c0_i32_1967 : BitVec 32 := 0#32
  let v4417 : BitVec 1 := Scalar.cmpi .slt v4415 c0_i32_1967
  let c0_i32_1968 : BitVec 32 := 0#32
  let v4418 : BitVec 1 := Scalar.cmpi .slt v4414 c0_i32_1968
  let v4419 : BitVec 1 := Scalar.xori v4417 v4418
  let c0_i32_1966 : BitVec 32 := 0#32
  let v4416 : BitVec 1 := Scalar.cmpi .ne v4415 c0_i32_1966
  let v4420 : BitVec 1 := Scalar.andi v4419 v4416
  let v4421 : BitVec 32 := Scalar.addi v4415 v4414
  let v4422 : BitVec 32 := Scalar.select v4420 v4421 v4415
  let c128_i32_1969 : BitVec 32 := 128#32
  let v4423 : BitVec 32 := Scalar.muli v4422 c128_i32_1969
  let v4637 : BitVec 32 := Scalar.muli c16_i32_2123 v4423
  let v4638 : BitVec 32 := Scalar.addi v4157 v4637
  let v5389 : Index := Scalar.indexCast v4638
  let c0_2412 : Index := 0#32
  ![2, v5389.toNat, 0]
@[reducible] def k0_t1_loop : Scf.Loop 32 :=
  let c0_i32_2476 : BitVec 32 := 0#32
  let c8_i32_2477 : BitVec 32 := 8#32
  let v5581 : BitVec 32 := Scalar.addi c0_i32_2476 c8_i32_2477
  let c1_i32_2478 : BitVec 32 := 1#32
  ⟨c0_i32_2476, v5581, c1_i32_2478⟩
def k0_mult25 (k0_t1 : Fin k0_t1_loop.trips) : BitVec 32 :=
  let c0_i32_2476 : BitVec 32 := 0#32
  let c1_i32_2478 : BitVec 32 := 1#32
  let arg21 : BitVec 32 := Scf.iv c0_i32_2476 c1_i32_2478 k0_t1
  let c256_i32_2480 : BitVec 32 := 256#32
  let v5582 : BitVec 32 := Scalar.muli arg21 c256_i32_2480
  v5582
def k0_off14 (k0_t1 : Fin k0_t1_loop.trips) : Fin 3 → Nat :=
  let c0_2481 : Index := 0#32
  let c0_i32_2476 : BitVec 32 := 0#32
  let c1_i32_2478 : BitVec 32 := 1#32
  let arg21 : BitVec 32 := Scf.iv c0_i32_2476 c1_i32_2478 k0_t1
  let c256_i32_2480 : BitVec 32 := 256#32
  let v5582 : BitVec 32 := Scalar.muli arg21 c256_i32_2480
  let v5583 : BitVec 32 := v5582
  let v5584 : Index := Scalar.indexCast v5583
  let c0_2482 : Index := 0#32
  ![0, v5584.toNat, 0]
def k0_off15 (k0_t1 : Fin k0_t1_loop.trips) : Fin 3 → Nat :=
  let c1_2483 : Index := 1#32
  let c0_i32_2476 : BitVec 32 := 0#32
  let c1_i32_2478 : BitVec 32 := 1#32
  let arg21 : BitVec 32 := Scf.iv c0_i32_2476 c1_i32_2478 k0_t1
  let c256_i32_2480 : BitVec 32 := 256#32
  let v5582 : BitVec 32 := Scalar.muli arg21 c256_i32_2480
  let v5583 : BitVec 32 := v5582
  let v5587 : Index := Scalar.indexCast v5583
  let c0_2484 : Index := 0#32
  ![1, v5587.toNat, 0]
def k0_off16 (k0_t1 : Fin k0_t1_loop.trips) : Fin 3 → Nat :=
  let c2_2485 : Index := 2#32
  let c0_i32_2476 : BitVec 32 := 0#32
  let c1_i32_2478 : BitVec 32 := 1#32
  let arg21 : BitVec 32 := Scf.iv c0_i32_2476 c1_i32_2478 k0_t1
  let c256_i32_2480 : BitVec 32 := 256#32
  let v5582 : BitVec 32 := Scalar.muli arg21 c256_i32_2480
  let v5583 : BitVec 32 := v5582
  let v5590 : Index := Scalar.indexCast v5583
  let c0_2486 : Index := 0#32
  ![2, v5590.toNat, 0]
def k0_off17 (k0_t1 : Fin k0_t1_loop.trips) : Fin 3 → Nat :=
  let c0_2493 : Index := 0#32
  let c0_i32_2476 : BitVec 32 := 0#32
  let c1_i32_2478 : BitVec 32 := 1#32
  let arg21 : BitVec 32 := Scf.iv c0_i32_2476 c1_i32_2478 k0_t1
  let c256_i32_2480 : BitVec 32 := 256#32
  let v5582 : BitVec 32 := Scalar.muli arg21 c256_i32_2480
  let v5583 : BitVec 32 := v5582
  let v5619 : Index := Scalar.indexCast v5583
  let c0_2494 : Index := 0#32
  ![0, v5619.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c88_i32 : BitVec 32 := 88#32
  let v0 : BitVec 32 := Scalar.addi c88_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== DilatedIdeal.lean ====
variable {F : FTy → Type} [FloatOps F] [Named F]
def κ : String → Option EReal := fun
  | "mask" => some ⊥
  | _ => none
-- ==== Proof.InRun.lean ====
/-
  Hand-written. The run of `InProjIdeal`'s body with its contents named: the rows the loop normalises, the gate columns and
  the projected block, as functions of the input blocks.
-/
module

public import proofs.«01_k».proof.Proof.Gen.InProjIdeal.Frame
public import proofs.«01_k».proof.Proof.Gen.InProjIdeal.Skeleton
public import Idealize.ShloMosaic.Lib.WritesUnit
public import Idealize.ShloMosaic.Lib.VecWindow
public import Idealize.ShloMosaic.Lib.Pipeline.ValueKit

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Rows `256·q` to `256·q + 255` of a block. -/
def rows (q : ℕ) (hq : q < 4) (x : Vec F S1024x2048 .f32) : Vec F S256x2048 .f32 :=
  fun y => x (ix2 ⟨256 * q + (y 0).val, by have := (y 0).isLt; show _ < 1024; change (y 0).val < 256 at this; omega⟩ (y 1))

/-- The normalised rows of a block, 256 rows at a time. -/
def nrm (x : Vec F S1024x2048 .f32) (w : Vec F S1x2048 .f32) : Vec F S1024x2048 .bf16 :=
  fun j => k0_pay1 (rows ((j 0).val / 256) (by have := (j 0).isLt; change (j 0).val < 1024 at this; omega) x) w
    (ix2 ⟨(j 0).val % 256, Nat.mod_lt _ (by decide)⟩ (j 1))

/-- One trip's effect: the rows below `256·k` normalised before it, the rows below `256·(k+1)` after. -/
theorem trip_read (v : View sig .tc .vmem S1024x2048 .bf16) (f : v.ty.Contents (Elt F)) (x : Vec F S1024x2048 .f32)
    (w : Vec F S1x2048 .f32) (k : ℕ) (hk : k < 4) (off : Fin 2 → ℕ) (hoff : off = ![256 * k, 0])
    (inb : ∀ a, off a + S256x2048.size a ≤ S1024x2048.size a) (v18 : Vec F S256x2048 .f32) (h18 : v18 = rows k hk x)
    (h : ∀ j : S1024x2048.Idx, (j 0).val < 256 * k → v.read (Elt F) f j = nrm x w j) (j : S1024x2048.Idx) (hj : (j 0).val < 256 * (k + 1)) :
    v.read (Elt F) (v.writes (Elt F) f [⟨Rect.unit off S256x2048.size inb, k0_pay1 v18 w⟩]) j = nrm x w j := by
  subst h18
  by_cases hlt : (j 0).val < 256 * k
  · rw [View.read_writes_cons_unit_of_not_mem v f inb _ [] j hoff (0 : Fin 2) (Or.inl hlt), View.writes_nil]
    exact h j hlt
  · have e : (j 0).val / 256 = k := by omega
    refine (View.read_writes_cons_unit_of_mem v f inb _ [] j
      (ix2 ⟨(j 0).val % 256, Nat.mod_lt _ (by decide)⟩ (j 1) : S256x2048.Idx) hoff (fun a => ?_)).trans ?_
    · match a with
      | ⟨0, _⟩ => show (j 0).val = 256 * k + (j 0).val % 256; omega
      | ⟨1, _⟩ => show (j 1).val = 0 + (j 1).val; omega
    · unfold nrm
      subst e
      rfl

/-- The loop's invariant: before trip `k` the scratch holds the normalised rows below `256·k`. -/
abbrev inv (c : Dev nD) (arg2 : Memref sig .tc .vmem S1024x2048 .f32) (harg2 : arg2.IsWhole) (arg3 : Memref sig .tc .vmem S1x2048 .f32) (harg3 : arg3.IsWhole) (arg8 : Memref sig .tc .vmem S1024x2048 .bf16)
    (x0 : Vec F S1024x2048 .f32) (x1 : Vec F S1x2048 .f32) (k : ℕ) (_u : PUnit) : sProp 𝕄 :=
  iprop((arg2.view.loc (c : Thread nD τ) ↦[arg2.view.set]{fullShare} harg2.unread x0)
    ∗ (arg3.view.loc (c : Thread nD τ) ↦[arg3.view.set]{fullShare} harg3.unread x1)
    ∗ (∃ f, (arg8.view.loc (c : Thread nD τ) ↦[arg8.view.set]{fullShare} f)
        ∗ ⌜∀ j : S1024x2048.Idx, (j 0).val < 256 * k → arg8.view.read (Elt F) f j = nrm x0 x1 j⌝))

set_option warn.classDefReducibility false in
set_option maxHeartbeats 1000000 in
/-- The loop by its invariant. -/
@[sl_loop] def loopF (𝒱 : Variants) (c : Dev nD) (bd : Option 𝒱.V) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1)
    (x0 : Vec F S1024x2048 .f32) (x1 : Vec F S1x2048 .f32) :
    Idealize.ShloMosaic.LoopInv (M := 𝕄) Idealize.ShloMosaic.frame (wpE (defs₀ (F := F)) 𝒱 (c : Thread nD τ) bd) E
      k0_t1_loop.lb k0_t1_loop.ub k0_t1_loop.st (k0_t1_ok i k0_h1) () (k0_t1_body (F := F) i arg2 harg2 arg3 harg3 arg4 harg4 arg5 harg5 arg6 harg6 arg7 harg7 arg8 harg8 k0_h1) where
  inv := inv c arg2 harg2 arg3 harg3 arg8 x0 x1
  step k acc := by
    have hk : k.val < 4 := Nat.lt_of_lt_of_le k.isLt k0_t1_abs.2.1
    unfold k0_t1_body
    iintro ⟨H2, H3, ⟨%f, H8, %hf⟩⟩
    sl_exec
    sl_step
    isplitl [H2]; · iexact H2
    isplitl [H3]; · iexact H3
    iexists _; isplitl [H8]; · iexact H8
    ipureintro
    intro j hj
    have e1 : View.readAt (Elt F) arg3.view (Rect.unit ![0, 0] S1x2048.size inb_S1x2048_S1x2048_0_0).toLoadRect (harg3.unread x1) = x1 := by
      rw [View.readAt_eq_ld, harg3.read_unread]
      exact (View.ld_unit_lit inb_S1x2048_S1x2048_0_0 x1 (by decide))
    rw [e1]
    refine trip_read arg8.view f x0 x1 k.val hk _ (k0_off1_eq k) _ _ ?_ hf j hj
    rw [View.readAt_eq_ld, harg2.read_unread]
    funext y
    refine View.ld_unit_apply_of x0 _ _ _ y _ (fun a => ?_)
    refine Eq.trans ?_ (congrArg (· + (y a).val) (congrFun (k0_off1_eq k) a).symm)
    match a with
    | ⟨0, _⟩ => rfl
    | ⟨1, _⟩ => exact (Nat.zero_add _).symm

/-- A load of a whole buffer reads its contents. -/
theorem readAt_whole {S : Shape} {e : EltTy} {off : Fin S.rank → ℕ} (v : View sig .tc .vmem S e) (f : v.ty.Contents (Elt F))
    (inb : ∀ a, off a + S.size a ≤ S.size a) (h : ∀ a, off a = 0) :
    View.readAt (Elt F) v (Rect.unit off (no_index S.size) inb).toLoadRect f = v.read (Elt F) f := by
  rw [View.readAt_eq_ld]; exact View.ld_unit_lit inb _ h

/-- A store to a whole buffer leaves its payload. -/
theorem read_writes_whole {S : Shape} {e : EltTy} {off : Fin S.rank → ℕ} (v : View sig .tc .vmem S e) (f : v.ty.Contents (Elt F))
    (inb : ∀ a, off a + S.size a ≤ S.size a) (w : S.Idx → Elt F e) :
    v.read (Elt F) (v.writes (Elt F) f [⟨Rect.unit off S.size inb, w⟩]) = w :=
  View.read_writes_full v f inb w []

set_option maxHeartbeats 1000000 in
/-- The body at the first column block of a row block: the rows are normalised into the scratch, the gates and the
    projected block computed from them. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (hc0 : k0_cond1 i = 1#1)
    (x0 : Vec F S1024x2048 .f32) (x1 : Vec F S1x2048 .f32) (x2 : Vec F S2048x1024 .bf16) (x3 : Vec F S2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (nrm x0 x1) x2) ∗ owns (c : Thread nD τ) arg7 fullShare (k0_pay2 (nrm x0 x1) x3) ∗ owns (c : Thread nD τ) arg8 fullShare (nrm x0 x1)) -∗ K ⟨⟩))
          ⊢ wp frame (wpE (defs₀ (F := F)) Variants.none c none) E (cc0_in_proj i arg2 harg2 arg3 harg3 arg4 harg4 arg5 harg5 arg6 harg6 arg7 harg7 arg8 harg8) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)

    sl_step
    have e8 : arg8.view.read (Elt F) fL0 = nrm x0 x1 := funext fun j => hL3 j (j 0).isLt
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [read_writes_whole, readAt_whole _ _ _ (by decide), readAt_whole _ _ _ (by decide), e8, harg4.read_unread]
    isplitl [H5]
    · iexists _; isplitr; swap; · iexact H5
      ipureintro
      rw [read_writes_whole, readAt_whole _ _ _ (by decide), readAt_whole _ _ _ (by decide), e8, harg5.read_unread]
    iexists _; isplitr; · ipureintro; exact e8
    iexact HS0

set_option maxHeartbeats 1000000 in
/-- The body at any later column block: the projected block computed from the rows the scratch holds; the scratch and
    the gates' buffer keep their contents. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (hc0 : ¬ k0_cond1 i = 1#1)
    (x0 : Vec F S1024x2048 .f32) (x1 : Vec F S1x2048 .f32) (x2 : Vec F S2048x1024 .bf16) (x3 : Vec F S2048x128 .bf16) (x5 : Vec F S1024x128 .f32) (xs : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 xs x2) ∗ owns (c : Thread nD τ) arg7 fullShare x5 ∗ owns (c : Thread nD τ) arg8 fullShare xs) -∗ K ⟨⟩))
          ⊢ wp frame (wpE (defs₀ (F := F)) Variants.none c none) E (cc0_in_proj i arg2 harg2 arg3 harg3 arg4 harg4 arg5 harg5 arg6 harg6 arg7 harg7 arg8 harg8) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [read_writes_whole, readAt_whole _ _ _ (by decide), readAt_whole _ _ _ (by decide), hfs0, harg4.read_unread]
    isplitl [H5]
    · iexists _; isplitr; · ipureintro; exact hf5
      iexact H5
    iexists _; isplitr; · ipureintro; exact hfs0
    iexact HS0

end Cert.InProjIdeal.Hand

end
-- ==== Proof.InFrame.lean ====
/-
  Hand-written. `InProjIdeal`'s pipeline with its contents named: what every point leaves in the two output windows and in the
  scratch, the body's obligation, and the launch.
-/
module

public import proofs.«01_k».proof.Proof.InRun
public import Idealize.ShloMosaic.Lib.Pipeline.TableIdle
public import Idealize.ShloMosaic.Lib.Pipeline.ValueKit

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch's condition: the point is the first of its row block. -/
abbrev cond0_0 (i : grid0.Coords) : Prop := k0_cond1 i = 1#1
/-- It holds at the points ≡ 0 (mod 13) — by arithmetic of the point. -/
theorem hcond0_0 : ∀ t : Fin cfg0.N, cond0_0 (grid0.coords t) ↔ t.val % 13 = 0 :=
  (fun t => by
    have ht : t.val < 416 := Nat.lt_of_lt_of_eq t.isLt N_0
    have e0 : (grid0.coords t 0).val = t.val / 13 % 32 := Pipeline.Grid.coords_val t 0 (by decide) rfl
    have e1 : (grid0.coords t 1).val = t.val / 1 % 13 := Pipeline.Grid.coords_val t 1 (by decide) rfl
    simp only [cond0_0, k0_cond1, e0, e1]
    word_cmp
   : ∀ t : Fin grid0.N, cond0_0 (grid0.coords t) ↔ t.val % 13 = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .bf16 := Memref.whole cc0_scratch0

/-- The invariant's scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Blocks that stay put along a row block -/

/-- The windows' block indices at a point. -/
theorem idx : ∀ t : Fin cfg0.N, win0_0.index t = ![t.val / 13, 0] ∧ win0_1.index t = ![0, 0] ∧ win0_2.index t = ![0, t.val % 13]
    ∧ win0_3.index t = ![0, 32] ∧ win0_4.index t = ![t.val / 13, t.val % 13] ∧ win0_5.index t = ![t.val / 13, 0] :=
  (by decide +kernel : ∀ t : Fin grid0.N, _)

/-- The block of rows at a point, read off the array. -/
theorem iblk0_apply (c : Dev nD) (t : Fin cfg0.N) (y : S1024x2048.Idx) (i : S32768x2048.Idx)
    (h0 : (i 0).val = t.val / 13 * 1024 + (y 0).val) (h1 : (i 1).val = (y 1).val) :
    (iblk m c 0 t : Vec F S1024x2048 .f32) y = (V m c main_v0 : Vec F S32768x2048 .f32) i := by
  blk_simp [iblk, idx t]
  blk_ext [idx t]

/-- The norm's weight at a point. -/
theorem iblk1_apply (c : Dev nD) (t : Fin cfg0.N) (y : S1x2048.Idx) (i : S1x2048.Idx) (h1 : (i 1).val = (y 1).val) :
    (iblk m c 1 t : Vec F S1x2048 .f32) y = (V m c main_v7 : Vec F S1x2048 .f32) i := by
  blk_simp [iblk, idx t]
  blk_ext [idx t]

/-- The weight's block of columns at a point. -/
theorem iblk2_apply (c : Dev nD) (t : Fin cfg0.N) (y : S2048x1024.Idx) (i : S2048x13312.Idx)
    (h0 : (i 0).val = (y 0).val) (h1 : (i 1).val = t.val % 13 * 1024 + (y 1).val) :
    (iblk m c 2 t : Vec F S2048x1024 .bf16) y = (V m c main_v5 : Vec F S2048x13312 .bf16) i := by
  blk_simp [iblk, idx t]
  blk_ext [idx t]

/-- The gates' columns of the weight. -/
theorem X0_3_apply (c : Dev nD) (t : Fin cfg0.N) (y : S2048x128.Idx) (i : S2048x13344.Idx)
    (h0 : (i 0).val = (y 0).val) (h1 : (i 1).val = 4096 + (y 1).val) :
    (X0_3 m c t : Vec F S2048x128 .bf16) y = (V m c main_v2 : Vec F S2048x13344 .bf16) i := by
  unfold X0_3 Pipeline.Window.fill
  rw [dif_pos (moved0_3 t y)]
  blk_simp [iblk, idx t]
  blk_ext [idx t]

/-- Within a row block the rows, the norm's weight and the gates' columns are the point before's. -/
theorem iblk0_prev (c : Dev nD) (t t' : Fin cfg0.N) (h : t'.val / 13 = t.val / 13) :
    (iblk m c 0 t : Vec F S1024x2048 .f32) = iblk m c 0 t' := by
  funext y
  have hN : t.val < 416 := lt_of_lt_of_eq t.isLt (show cfg0.N = 416 from N_0)
  have hy : (y 0).val < 1024 := (y 0).isLt
  have e : t.val / 13 * 1024 + (y 0).val < 32768 := by omega
  rw [iblk0_apply m c t y (ix2 ⟨_, e⟩ (y 1)) rfl rfl]
  exact (iblk0_apply m c t' y (ix2 ⟨_, e⟩ (y 1)) (by show t.val / 13 * 1024 + _ = _; rw [h]) rfl).symm

theorem iblk1_prev (c : Dev nD) (t t' : Fin cfg0.N) : (iblk m c 1 t : Vec F S1x2048 .f32) = iblk m c 1 t' := by
  funext y
  rw [iblk1_apply m c t y y rfl]
  exact (iblk1_apply m c t' y y rfl).symm

theorem X0_3_prev (c : Dev nD) (t t' : Fin cfg0.N) : (X0_3 m c t : Vec F S2048x128 .bf16) = X0_3 m c t' := by
  funext y
  have hy : (y 1).val < 128 := (y 1).isLt
  have e : 4096 + (y 1).val < 13344 := by omega
  rw [X0_3_apply m c t y (ix2 (y 0) ⟨_, e⟩) rfl rfl]
  exact (X0_3_apply m c t' y (ix2 (y 0) ⟨_, e⟩) rfl rfl).symm

/-! ## The contents -/

/-- The scratch after a point: the normalised rows of the point's row block. -/
def nblk (c : Dev nD) (t : Fin cfg0.N) : Vec F S1024x2048 .bf16 := nrm (iblk m c 0 t) (iblk m c 1 t)

theorem nblk_prev (c : Dev nD) (t t' : Fin cfg0.N) (h : t'.val / 13 = t.val / 13) : nblk m c t = nblk m c t' := by
  unfold nblk; rw [iblk0_prev m c t t' h, iblk1_prev m c t t']

/-- The projected block a point leaves. -/
def out4 (c : Dev nD) (t : Fin cfg0.N) : Vec F S1024x1024 .bf16 := k0_pay3 (nblk m c t) (iblk m c 2 t)
/-- The gates a point leaves. -/
def out5 (c : Dev nD) (t : Fin cfg0.N) : Vec F S1024x128 .f32 := k0_pay2 (nblk m c t) (X0_3 m c t)

theorem out5_prev (c : Dev nD) (t t' : Fin cfg0.N) (h : t'.val / 13 = t.val / 13) : out5 m c t = out5 m c t' := by
  unfold out5; rw [nblk_prev m c t t' h, X0_3_prev m c t t']

/-- The invariant before position `n`: the scratch at anything before the first point, then at the rows the point before left. -/
def PhiS (c : Dev nD) : (n : ℕ) → n ≤ cfg0.N → sProp 𝕄
  | 0, _ => Pipeline.ΦA spec0 c
  | n + 1, hn => iprop(iprop(owns (c : Thread nD τ) scM0_0 fullShare (nblk m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (nblk m c ⟨n - 1, by omega⟩)) ∗ (∃ r, prngReg c r)) := by
  cases n with
  | zero => exact absurd rfl hz
  | succ n => rfl

/-- At any position the scratch is owned at some contents. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨HS0, Hg⟩
    isplitl [HS0]
    · iexists _; iexact HS0
    iexact Hg

/-- The proof data: the inputs at their blocks, the outputs at the named contents, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => out4 m c t
    | ⟨5, _⟩ => out5 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem Phi_succ (c : Dev nD) (t : Fin cfg0.N) :
    (dats m 0 c).Φ t.succ = iprop(iprop(owns (c : Thread nD τ) scM0_0 fullShare (nblk m c t)) ∗ (∃ r, prngReg c r)) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d

/-- The gates' window is idle but at the first point of a row block. -/
theorem live0_5 (t : Fin cfg0.N) (h : t.val % 13 = 0) : cfg0.idle 5 (grid0.coords t) = false := by
  show (!(k0_cond1 (grid0.coords t) == 1#1)) = false
  rw [(hcond0_0 t).mpr h]; rfl
theorem idle0_5 (t : Fin cfg0.N) (h : ¬ t.val % 13 = 0) : cfg0.idle 5 (grid0.coords t) = true := by
  show (!(k0_cond1 (grid0.coords t) == 1#1)) = true
  rw [show (k0_cond1 (grid0.coords t) == 1#1) = false from beq_eq_false_iff_ne.mpr fun e => h ((hcond0_0 t).mp e)]; rfl

/-- Its buffer is fresh at the first point of a row block only. -/
theorem fresh0_5 : ∀ n, n ≤ cfg0.N → cfg0.fresh 5 n = (n % 13 == 0) :=
  cfg0.fresh_tab 5 (fun n => n % 13 == 0) rfl
    (by decide +kernel : ∀ t : Fin grid0.N, ((t.val + 1) % 13 == 0) = (win0_5.flush t || (cfg0.idle 5 (grid0.coords t) && (t.val % 13 == 0))))

/-- At a later column block the gates' buffer holds what this row block's first point left. -/
theorem before0_5 (c : Dev nD) (t : Fin cfg0.N) (h : ¬ t.val % 13 = 0) (d) : (dats m 0 c).before 5 t d = out5 m c t := by
  have h0 : t.val ≠ 0 := by omega
  rw [(dats m 0 c).before_out_traj 5 rfl (fun _ _ => rfl) (fun t' h' _ hf => by
      rw [fresh0_5 _ (Nat.le_of_lt t'.isLt)] at hf
      have hf' : ¬ t'.val % 13 = 0 := fun e => by rw [e] at hf; exact absurd hf (by decide)
      rw [after0_5, after0_5]
      exact out5_prev m c t' _ (by show (t'.val - 1) / 13 = t'.val / 13; omega)) t.val t rfl d,
    fresh0_5 _ (Nat.le_of_lt t.isLt), if_neg (by rw [beq_iff_eq]; exact h), after0_5]
  exact out5_prev m c _ t (by show t.val / 13 = (t.val - 1) / 13; omega)

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (X0_3 m c t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (out4 m c t) := by
  unfold Dat.leavesExact; rw [show cfg0.idle 4 (grid0.coords t) = false from rfl, after0_4]
/-- The gates' buffer at the first point of a row block, -/
theorem leaves0_5_A (c : Dev nD) (t : Fin cfg0.N) (h : t.val % 13 = 0) :
    (dats m 0 c).leavesExact 5 t = owns (c : Thread nD τ) (ms0_5 t) fullShare (out5 m c t) := by
  unfold Dat.leavesExact; rw [live0_5 t h, after0_5]
/-- and at a later one. -/
theorem leaves0_5_B (c : Dev nD) (t : Fin cfg0.N) (h : ¬ t.val % 13 = 0) :
    owns (c : Thread nD τ) (ms0_5 t) fullShare (out5 m c t) ⊢ (dats m 0 c).leavesExact 5 t := by
  cases hf : (cfg0.win 5).flush t
  · rw [(dats m 0 c).leavesExact_idle 5 t (idle0_5 t h) hf]
    simp only [before0_5 m c t h]
    iintro H
    iexists (out5 m c t : (cfg0.win 5).block.Idx → Elt F (cfg0.win 5).elt); iexact H
  · unfold Dat.leavesExact; rw [idle0_5 t h, hf, after0_5]

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves0_0, leaves0_1, leaves0_2, leaves0_3, leaves0_4]
  rw [Phi_castSucc, Phi_succ, show (dats m 0 c).owesAt () t.succ = (dats m 0 c).owesAt () t.castSucc from rfl]
  have hN : t.val < 416 := lt_of_lt_of_eq t.isLt (show cfg0.N = 416 from N_0)
  by_cases h0 : t.val % 13 = 0
  · rw [leaves0_5_A m c t h0]
    refine BIBase.Entails.trans (sep_mono_l ((PhiS_any m c _ _).trans (Entails.of_eq (PhiA0_eq c)))) ?_
    show iprop(iprop((∃ d, owns (c : Thread nD τ) scM0_0 fullShare d) ∗ (∃ r, prngReg c r)) ∗ _) ⊢ _
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ ((hcond0_0 t).mpr h0) (iblk m c 0 t) (iblk m c 1 t) (iblk m c 2 t) (X0_3 m c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before0_5 m c t h0]
    rw [PhiS_pos m c _ _ (by omega), ← nblk_prev m c t ⟨t.val - 1, by omega⟩ (by show (t.val - 1) / 13 = t.val / 13; omega)]
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ (fun h => h0 ((hcond0_0 t).mp h)) (iblk m c 0 t) (iblk m c 1 t) (iblk m c 2 t) (X0_3 m c t) (out5 m c t) (nblk m c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves0_5_B m c t h0); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c :=
  PhiS_any m c cfg0.N (Nat.le_refl _)

/-! ## The run -/

set_option backward.isDefEq.respectTransparency.types false in
/-- The launch: every window's array ends at its named contents, every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.InProjIdeal.Hand

end
-- ==== Proof.InValue.lean ====
/-
  Hand-written. `InProjIdeal`'s two results are the reference's terms: the projection without the gates' columns, and the gates.
-/
module

public import proofs.«01_k».proof.Proof.InFrame
public import proofs.«01_k».proof.Proof.Gen.InProjRefIdeal.Run
public import Idealize.ShloMosaic.Lib.Pipeline.ValueKit

@[expose] public section

set_option maxRecDepth 16384

noncomputable section

namespace Cert.InProjIdeal.Hand

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ) (ρ : Dev nD → PrngReg)

/-- The reference's normalised rows. -/
abbrev NREF (x : FVec Ideal S16x2048x2048 .f32) (nw : FVec Ideal S1x2048 .f32) : FVec Ideal S16x2048x2048 .f32 :=
  (mulf (mulf x (broadcastInDim Cert.InProjRefIdeal.S16x2048x2048 ![0, 1, 2] Cert.InProjRefIdeal.Gen.bcast_S16x2048x1_S16x2048x2048_0_1_2 (Host.rsqrt (addf (Host.divf (broadcastInDim Cert.InProjRefIdeal.S16x2048x1 ![0, 1] Cert.InProjRefIdeal.Gen.bcast_S16x2048_S16x2048x1_0_1 (Host.reduceAdd (mulf x x) (constant Cert.InProjRefIdeal.S_ .f32 0x00000000#32) Cert.InProjRefIdeal.Gen.reducesTo_S16x2048x2048_S16x2048_d2 Cert.InProjRefIdeal.Gen.h_S_)) (broadcastInDim Cert.InProjRefIdeal.S16x2048x1 ![] Cert.InProjRefIdeal.Gen.bcast_S_S16x2048x1 (constant Cert.InProjRefIdeal.S_ .f32 0x45000000#32))) (broadcastInDim Cert.InProjRefIdeal.S16x2048x1 ![] Cert.InProjRefIdeal.Gen.bcast_S_S16x2048x1 (constant Cert.InProjRefIdeal.S_ .f32 0x358637BD#32)))))) (broadcastInDim Cert.InProjRefIdeal.S16x2048x2048 ![0, 1, 2] Cert.InProjRefIdeal.Gen.bcast_S1x1x2048_S16x2048x2048_0_1_2 (broadcastInDim Cert.InProjRefIdeal.S1x1x2048 ![2] Cert.InProjRefIdeal.Gen.bcast_S2048_S1x1x2048_2 (shapeCast _ nw Cert.InProjRefIdeal.Gen.shapeCasts_S1x2048_S2048))))

/-- The reference's projection, all columns. -/
abbrev PREF (x : FVec Ideal S16x2048x2048 .f32) (nw : FVec Ideal S1x2048 .f32) (w : FVec Ideal S1x2048x13344 .f32) :
    FVec Ideal Cert.InProjRefIdeal.S16x2048x13344 .f32 :=
  (Host.dotGeneral Cert.InProjRefIdeal.dot_S16x2048x2048_S2048x13344_S16x2048x13344_2_0_01_1_n_n none (NREF x nw) (shapeCast _ w Cert.InProjRefIdeal.Gen.shapeCasts_S1x2048x13344_S2048x13344))

/-- The reference's first result. -/
abbrev REF4 (x : FVec Ideal S16x2048x2048 .f32) (nw : FVec Ideal S1x2048 .f32) (w : FVec Ideal S1x2048x13344 .f32) : FVec Ideal S32768x13312 .bf16 :=
  truncf .bf16 (shapeCast _ (concatenate Cert.InProjRefIdeal.S16x2048x13312 2 [⟨Cert.InProjRefIdeal.S16x2048x4096, (extractStridedSlice Cert.InProjRefIdeal.S16x2048x4096 ![0, 0, 0] (PREF x nw w) Cert.InProjRefIdeal.Gen.slices_S16x2048x13344_S16x2048x4096_0_0_0)⟩, ⟨Cert.InProjRefIdeal.S16x2048x9216, (extractStridedSlice Cert.InProjRefIdeal.S16x2048x9216 ![0, 0, 4128] (PREF x nw w) Cert.InProjRefIdeal.Gen.slices_S16x2048x13344_S16x2048x9216_0_0_4128)⟩] Cert.InProjRefIdeal.Gen.concatenates_S16x2048x4096_S16x2048x9216_S16x2048x13312_d2) Cert.InProjRefIdeal.Gen.shapeCasts_S16x2048x13312_S32768x13312) Cert.InProjRefIdeal.Gen.bitsLt_bf16_f32

/-- The reference's second result. -/
abbrev REF5 (x : FVec Ideal S16x2048x2048 .f32) (nw : FVec Ideal S1x2048 .f32) (w : FVec Ideal S1x2048x13344 .f32) : FVec Ideal S32768x128 .f32 :=
  shapeCast _ (extractStridedSlice Cert.InProjRefIdeal.S16x2048x128 ![0, 0, 4096] (PREF x nw w) Cert.InProjRefIdeal.Gen.slices_S16x2048x13344_S16x2048x128_0_0_4096) Cert.InProjRefIdeal.Gen.shapeCasts_S16x2048x128_S32768x128

/-- The rows as the region finds them. -/
theorem V_rows (c : Dev nD) (i : S32768x2048.Idx) (j : S16x2048x2048.Idx)
    (h0 : (j 0).val = (i 0).val / 2048) (h1 : (j 1).val = (i 0).val % 2048) (h2 : (j 2).val = (i 1).val) :
    (V m c main_v0 : Vec Ideal S32768x2048 .f32) i = (m ((c : Thread nD τ).loc main_arg0) : FVec Ideal S16x2048x2048 .f32) j := by
  entry_read
  pointwise
  blk_ext

/-- The norm's weight as the region finds it. -/
theorem V_nw (c : Dev nD) (i j : S1x2048.Idx) (h1 : (j 1).val = (i 1).val) :
    (V m c main_v7 : Vec Ideal S1x2048 .f32) i = (m ((c : Thread nD τ).loc main_arg1) : FVec Ideal S1x2048 .f32) j := by
  entry_read
  pointwise
  blk_ext

/-- The weight as the region finds it, whole, -/
theorem V_w (c : Dev nD) (i : S2048x13344.Idx) (j : S1x2048x13344.Idx) (h1 : (j 1).val = (i 0).val) (h2 : (j 2).val = (i 1).val) :
    (V m c main_v2 : Vec Ideal S2048x13344 .bf16) i = (m ((c : Thread nD τ).loc main_arg2) : FVec Ideal S1x2048x13344 .f32) j := by
  entry_read
  pointwise
  blk_ext

/-- and without the gates' columns. -/
theorem V_wmain (c : Dev nD) (i : S2048x13312.Idx) (j : S1x2048x13344.Idx) (h1 : (j 1).val = (i 0).val)
    (h2 : (j 2).val = if (i 1).val < 4096 then (i 1).val else (i 1).val + 32) :
    (V m c main_v5 : Vec Ideal S2048x13312 .bf16) i = (m ((c : Thread nD τ).loc main_arg2) : FVec Ideal S1x2048x13344 .f32) j := by
  entry_read
  pointwise
  split
  · next h =>
    rw [if_pos h] at h2
    blk_ext
  · next h =>
    rw [if_neg h] at h2
    blk_ext

/-- A normalised entry, spelled out. -/
abbrev nval (x : FVec Ideal S16x2048x2048 .f32) (nw : FVec Ideal S1x2048 .f32) (j : S16x2048x2048.Idx) : EReal :=
  x j * Ideal.rsqrt (Ideal.div (∑ a, x (ix3 (j 0) (j 1) a) * x (ix3 (j 0) (j 1) a)) (Ideal.ofBits FTy.f32 1157627904#32)
    + Ideal.ofBits FTy.f32 897988541#32) * nw (ix2 0 (j 2))

/-- The scratch's rows are the reference's normalised rows. -/
theorem nblk_apply (c : Dev nD) (t : Fin cfg0.N) (y : S1024x2048.Idx) (j : S16x2048x2048.Idx)
    (h0 : (j 0).val = (t.val / 13 * 1024 + (y 0).val) / 2048) (h1 : (j 1).val = (t.val / 13 * 1024 + (y 0).val) % 2048)
    (h2 : (j 2).val = (y 1).val) :
    nblk m c t y = nval (m ((c : Thread nD τ).loc main_arg0)) (m ((c : Thread nD τ).loc main_arg1)) j := by
  unfold nblk nrm
  pointwise [k0_pay1, nval]
  have hr : ∀ a, rows (F := Ideal) ((y 0).val / 256) (by have : (y 0).val < 1024 := (y 0).isLt; omega) (iblk m c 0 t) (ix2 ⟨(y 0).val % 256, Nat.mod_lt _ (by omega)⟩ a)
      = (m ((c : Thread nD τ).loc main_arg0) : FVec Ideal S16x2048x2048 .f32) (ix3 (j 0) (j 1) a) := by
    intro a
    unfold rows
    rw [iblk0_apply m c t _ (ix2 ⟨t.val / 13 * 1024 + (y 0).val, by have : t.val < 416 := t.isLt; have : (y 0).val < 1024 := (y 0).isLt; omega⟩ a)
      (by show _ = t.val / 13 * 1024 + (256 * ((y 0).val / 256) + (y 0).val % 256); rw [Nat.div_add_mod]; rfl) rfl]
    exact V_rows m c _ _ h0 h1 rfl
  have hj : ix3 (j 0) (j 1) (y 1) = j := by
    blk_ext
  have hw : (iblk m c 1 t : Vec Ideal S1x2048 .f32) (ix2 0 (y 1)) = (m ((c : Thread nD τ).loc main_arg1) : FVec Ideal S1x2048 .f32) (ix2 0 (j 2)) := by
    rw [iblk1_apply m c t _ (ix2 0 (y 1)) rfl]
    exact V_nw m c _ _ h2
  refine congrArg₂ (· * ·) (congrArg₂ (· * ·) ((hr _).trans (congrArg _ hj)) (congrArg Ideal.rsqrt (congrArg (· + _) (congrArg (Ideal.div · _) (Finset.sum_congr rfl fun a _ => ?_))))) hw
  exact congrArg₂ (· * ·) (hr a) (hr a)

/-- A point's block of the first result is the reference's. -/
theorem point4 (c : Dev nD) (t : Fin cfg0.N) (y : S1024x1024.Idx) (i : S32768x13312.Idx)
    (h0 : (i 0).val = t.val / 13 * 1024 + (y 0).val) (h1 : (i 1).val = t.val % 13 * 1024 + (y 1).val) :
    out4 m c t y = REF4 (m ((c : Thread nD τ).loc main_arg0)) (m ((c : Thread nD τ).loc main_arg1)) (m ((c : Thread nD τ).loc main_arg2)) i := by
  unfold out4
  pointwise [k0_pay3, REF4, PREF]
  have ht : t.val < 416 := t.isLt
  have hi1 : (i 1).val < 13312 := (i 1).isLt
  have hy0 : (y 0).val < 1024 := (y 0).isLt
  have hw : ∀ (k : Fin 2048) (l : Fin 13344) (hl : l.val = if (i 1).val < 4096 then (i 1).val else (i 1).val + 32),
      (iblk m c 2 t : FVec Ideal S2048x1024 .bf16) (ix2 k (y 1)) = (m ((c : Thread nD τ).loc main_arg2) : FVec Ideal S1x2048x13344 .f32) (ix3 0 k l) := by
    intro k l hl
    rw [iblk2_apply m c t (ix2 k (y 1)) (ix2 k (i 1)) rfl h1]
    exact V_wmain m c _ _ rfl hl
  have hn : ∀ k : Fin 2048, nblk m c t (ix2 (y 0) k) = nval (m ((c : Thread nD τ).loc main_arg0)) (m ((c : Thread nD τ).loc main_arg1))
      (ix3 ⟨(i 0).val / 2048, by have : (i 0).val < 32768 := (i 0).isLt; omega⟩ ⟨(i 0).val % 2048, Nat.mod_lt _ (by omega)⟩ k) := fun k =>
    nblk_apply m c t _ _ (congrArg (· / 2048) h0) (congrArg (· % 2048) h0) rfl
  split
  · next h => exact Finset.sum_congr rfl fun k _ => congrArg₂ (· * ·) (hn k) (hw k _ (if_pos h).symm)
  · next h =>
    refine Finset.sum_congr rfl fun k _ => congrArg₂ (· * ·) (hn k) (hw k _ ?_)
    rw [if_neg h]; show 4128 + ((i 1).val - 4096) = _; omega

/-- A row block's gates are the reference's. -/
theorem point5 (c : Dev nD) (t : Fin cfg0.N) (y : S1024x128.Idx) (i : S32768x128.Idx)
    (h0 : (i 0).val = t.val / 13 * 1024 + (y 0).val) (h1 : (i 1).val = (y 1).val) :
    out5 m c t y = REF5 (m ((c : Thread nD τ).loc main_arg0)) (m ((c : Thread nD τ).loc main_arg1)) (m ((c : Thread nD τ).loc main_arg2)) i := by
  unfold out5
  pointwise [k0_pay2, REF5, PREF]
  have hi1 : (i 1).val < 128 := (i 1).isLt
  refine Finset.sum_congr rfl fun k _ => congrArg₂ (· * ·)
    (nblk_apply m c t _ _ (congrArg (· / 2048) h0) (congrArg (· % 2048) h0) rfl) ?_
  rw [X0_3_apply m c t _ (ix2 k ⟨4096 + (i 1).val, by omega⟩) rfl (by show 4096 + (i 1).val = 4096 + (y 1).val; omega)]
  exact V_w m c _ _ rfl rfl

/-- The array index the first result's block index `y` sits at, -/
theorem emb4 (t : Fin cfg0.N) (y : S1024x1024.Idx) :
    ((((cfg0.win 4).blk t).view.emb y) 0 : ℕ) = t.val / 13 * 1024 + (y 0).val
    ∧ ((((cfg0.win 4).blk t).view.emb y) 1 : ℕ) = t.val % 13 * 1024 + (y 1).val := by
  constructor <;> blk_simp [idx t]

/-- and the second's. -/
theorem emb5 (t : Fin cfg0.N) (y : S1024x128.Idx) :
    ((((cfg0.win 5).blk t).view.emb y) 0 : ℕ) = t.val / 13 * 1024 + (y 0).val
    ∧ ((((cfg0.win 5).blk t).view.emb y) 1 : ℕ) = (y 1).val := by
  constructor <;> blk_simp [idx t]

/-- The first result array after the run is the reference's term. -/
theorem final4 (c : Dev nD) : (dats m 0 c).arrAt 4 cfg0.N
    = REF4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y _ (emb4 t y).1 (emb4 t y).2

/-- The second result array after the run is the reference's term. -/
theorem final5 (c : Dev nD) : (dats m 0 c).arrAt 5 cfg0.N
    = REF5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y _ (emb5 t y).1 (emb5 t y).2

/-- The run's results are the reference's terms, and the arguments are kept. -/
theorem run : θ_run defs (onTc (τ := τ) (main (F := Ideal))) ⟨m, fun _ => 0, ρ⟩ (fun r => ∀ c : Dev nD,
    r.2.mem ((c : Thread nD τ).loc main_v8_0)
        = REF4 (m ((c : Thread nD τ).loc main_arg0)) (m ((c : Thread nD τ).loc main_arg1)) (m ((c : Thread nD τ).loc main_arg2))
    ∧ r.2.mem ((c : Thread nD τ).loc main_v8_1)
        = REF5 (m ((c : Thread nD τ).loc main_arg0)) (m ((c : Thread nD τ).loc main_arg1)) (m ((c : Thread nD τ).loc main_arg2))
    ∧ (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))) :=
  (θ_run defs _ _).mono (fun r h c => ⟨((h.1.1 c).1 4).trans (final4 m c), ((h.1.1 c).1 5).trans (final5 m c), h.2.1 c⟩)
    (θ_run_and (run_main m ρ) (frame m ρ))

end Cert.InProjIdeal.Hand

end
-- ==== Proof.OutValue.lean ====
/-
  Hand-written. `OutProjIdeal`'s result array after the run, index by index, and its equality with the reference's term:
  the residual plus the product of the two half-width head outputs with the two halves of the weight.
-/
module

public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

namespace Cert.Proof.OutValue

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The reference's term over the four arguments. -/
abbrev REF (x : FVec Ideal S16x2048x2048 .f32) (a b : FVec Ideal S16x2048x1024 .bf16) (w : FVec Ideal S1x2048x2048 .f32) :
    FVec Ideal S32768x2048 .f32 :=
  shapeCast _ (addf x (Host.dotGeneral Cert.OutProjRefIdeal.dot_S16x2048x2048_S2048x2048_S16x2048x2048_2_0_01_1_n_n none (concatenate Cert.OutProjRefIdeal.S16x2048x2048 2 [⟨Cert.OutProjRefIdeal.S16x2048x1024, (extf .f32 a Cert.OutProjRefIdeal.Gen.bitsLt_bf16_f32)⟩, ⟨Cert.OutProjRefIdeal.S16x2048x1024, (extf .f32 b Cert.OutProjRefIdeal.Gen.bitsLt_bf16_f32)⟩] Cert.OutProjRefIdeal.Gen.concatenates_S16x2048x1024_S16x2048x1024_S16x2048x2048_d2) (shapeCast _ w Cert.OutProjRefIdeal.Gen.shapeCasts_S1x2048x2048_S2048x2048))) Cert.OutProjRefIdeal.Gen.shapeCasts_S16x2048x2048_S32768x2048

/-- The windows' block indices at a point. -/
theorem idx : ∀ t : Fin cfg0.N, win0_0.index t = ![t.val / 2, t.val % 2] ∧ win0_1.index t = ![t.val / 2, 0] ∧ win0_2.index t = ![t.val / 2, 0]
    ∧ win0_3.index t = ![0, t.val % 2] ∧ win0_4.index t = ![1, t.val % 2] ∧ win0_5.index t = ![t.val / 2, t.val % 2] :=
  (by decide +kernel : ∀ t : Fin grid0.N, _)

/-- The residual block: rows `1024·(t/2)` on, columns `1024·(t%2)` on. -/
theorem blk0 (c : Dev nD) (t : Fin cfg0.N) (y : S1024x1024.Idx) (i : S16x2048x2048.Idx)
    (h0 : (i 0).val = (t.val / 2 * 1024 + (y 0).val) / 2048) (h1 : (i 1).val = (t.val / 2 * 1024 + (y 0).val) % 2048)
    (h2 : (i 2).val = t.val % 2 * 1024 + (y 1).val) :
    (iblk m c 0 t : FVec Ideal S1024x1024 .f32) y = (m ((c : Thread nD τ).loc main_arg0) : FVec Ideal S16x2048x2048 .f32) i := by
  blk_simp [iblk, idx t]
  entry_read
  pointwise
  blk_ext [idx t]

/-- The first head output's block of rows. -/
theorem blk1 (c : Dev nD) (t : Fin cfg0.N) (y : S1024x1024.Idx) (i : S16x2048x1024.Idx)
    (h0 : (i 0).val = (t.val / 2 * 1024 + (y 0).val) / 2048) (h1 : (i 1).val = (t.val / 2 * 1024 + (y 0).val) % 2048)
    (h2 : (i 2).val = (y 1).val) :
    (iblk m c 1 t : FVec Ideal S1024x1024 .bf16) y = (m ((c : Thread nD τ).loc main_arg1) : FVec Ideal S16x2048x1024 .bf16) i := by
  blk_simp [iblk, idx t]
  entry_read
  pointwise
  blk_ext [idx t]

/-- The second head output's block of rows. -/
theorem blk2 (c : Dev nD) (t : Fin cfg0.N) (y : S1024x1024.Idx) (i : S16x2048x1024.Idx)
    (h0 : (i 0).val = (t.val / 2 * 1024 + (y 0).val) / 2048) (h1 : (i 1).val = (t.val / 2 * 1024 + (y 0).val) % 2048)
    (h2 : (i 2).val = (y 1).val) :
    (iblk m c 2 t : FVec Ideal S1024x1024 .bf16) y = (m ((c : Thread nD τ).loc main_arg2) : FVec Ideal S16x2048x1024 .bf16) i := by
  blk_simp [iblk, idx t]
  entry_read
  pointwise
  blk_ext [idx t]

/-- The weight's upper half, a block of its columns. -/
theorem blk3 (c : Dev nD) (t : Fin cfg0.N) (y : S1024x1024.Idx) (i : S1x2048x2048.Idx)
    (h1 : (i 1).val = (y 0).val) (h2 : (i 2).val = t.val % 2 * 1024 + (y 1).val) :
    (iblk m c 3 t : FVec Ideal S1024x1024 .bf16) y = (m ((c : Thread nD τ).loc main_arg3) : FVec Ideal S1x2048x2048 .f32) i := by
  blk_simp [iblk, idx t]
  entry_read
  pointwise
  blk_ext [idx t]

/-- The weight's lower half, a block of its columns. -/
theorem blk4 (c : Dev nD) (t : Fin cfg0.N) (y : S1024x1024.Idx) (i : S1x2048x2048.Idx)
    (h1 : (i 1).val = 1024 + (y 0).val) (h2 : (i 2).val = t.val % 2 * 1024 + (y 1).val) :
    (iblk m c 4 t : FVec Ideal S1024x1024 .bf16) y = (m ((c : Thread nD τ).loc main_arg3) : FVec Ideal S1x2048x2048 .f32) i := by
  blk_simp [iblk, idx t]
  entry_read
  pointwise
  blk_ext [idx t]

/-- The array index the output block's index `y` sits at. -/
theorem out_emb (t : Fin cfg0.N) (y : S1024x1024.Idx) :
    ((((cfg0.win 5).blk t).view.emb y) 0 : ℕ) = t.val / 2 * 1024 + (y 0).val
    ∧ ((((cfg0.win 5).blk t).view.emb y) 1 : ℕ) = t.val % 2 * 1024 + (y 1).val := by
  constructor <;> blk_simp [idx t]

/-- What the body stores at block index `y` of point `t` is the reference's term at the array index `y` sits at. -/
theorem point (c : Dev nD) (t : Fin cfg0.N) (y) :
    k0_pay1 (iblk m c 0 t) (iblk m c 1 t) (iblk m c 3 t) (iblk m c 2 t) (iblk m c 4 t) y
    = REF (m ((c : Thread nD τ).loc main_arg0)) (m ((c : Thread nD τ).loc main_arg1)) (m ((c : Thread nD τ).loc main_arg2))
        (m ((c : Thread nD τ).loc main_arg3)) (((cfg0.win 5).blk t).view.emb y) := by
  pointwise [k0_pay1, REF]
  rw [add_assoc]
  obtain ⟨e0, e1⟩ := out_emb t y
  refine congrArg₂ (· + ·) (blk0 m c t _ _ (congrArg (· / 2048) e0) (congrArg (· % 2048) e0) e1)
    (congrArg₂ (· + ·) (Finset.sum_congr rfl fun k _ => congrArg₂ (· * ·)
        (blk1 m c t _ _ (congrArg (· / 2048) e0) (congrArg (· % 2048) e0) rfl) (blk3 m c t _ _ rfl e1))
      (Finset.sum_congr rfl fun k _ => congrArg₂ (· * ·)
        (blk2 m c t _ _ (congrArg (· / 2048) e0) (congrArg (· % 2048) e0) rfl) (blk4 m c t _ _ rfl e1)))

/-- The result array after the run is the reference's term. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point m c t y

end Cert.Proof.OutValue

end
-- ==== Proof.Claims.lean ====
/-
  Hand-written. The claims of the two projections: the frames of the kernels and of the references, and that the kernels' results
  are the references'.
-/
module

public import proofs.«01_k».proof.Defs
public import proofs.«01_k».proof.Proof.Gen.InProj
public import proofs.«01_k».proof.Proof.InValue
public import proofs.«01_k».proof.Proof.OutValue
public import proofs.«01_k».proof.Proof.Gen.InProjRefIdeal.Run
public import proofs.«01_k».proof.Proof.Gen.OutProjRefIdeal.Run
public import Idealize.ShloMosaic.Lib.Quiescent

@[expose] public section

set_option maxRecDepth 16384

noncomputable section

namespace Cert.Proof

open Idealize.ShloMosaic Idealize.ShloMosaic.TcCoe Idealize.SL.Sem

/-- The input projection's program and its idealization have the same bodies, -/
theorem in_defs₀ : Cert.InProj.defs₀ (F := Bits) = Cert.InProjIdeal.defs₀ (F := Bits) := by
  refine congrArg Defs.onTc ?_
  funext l x
  rcases l with ⟨l, hl⟩
  cases l with
  | zero => rcases x with ⟨t, s⟩; rfl
  | succ n => exact absurd hl (Nat.not_lt.2 (Nat.le_add_left _ _))

/-- so its frame is the one proved for any reading of the floats. -/
theorem in_frame : Cert.quiescent_InProj := by
  intro m ρ _
  have hd : Cert.InProj.defs (F := Bits) = Cert.InProjIdeal.defs (F := Bits) :=
    congrArg (Pipeline.defs Cert.InProj.pcfgs) in_defs₀
  rw [hd]
  exact Cert.InProjIdeal.Hand.frame (F := Bits) m ρ

/-- The input projection's reference ends with its arguments kept and every semaphore at zero. -/
theorem inRef_frame : Cert.quiescent_InProjRefIdeal := fun m ρ _ =>
  (θ_run _ _ _).mono (fun r h => ⟨fun c => (h c).2.2, sem_eq_zero_of_no_sems (by decide) r.2⟩) (Cert.InProjRefIdeal.Value.run m ρ)

/-- The output projection's reference ends with its arguments kept and every semaphore at zero. -/
theorem outRef_frame : Cert.quiescent_OutProjRefIdeal := fun m ρ _ =>
  (θ_run _ _ _).mono (fun r h => ⟨fun c => (h c).2, sem_eq_zero_of_no_sems (by decide) r.2⟩) (Cert.OutProjRefIdeal.Value.run m ρ)

/-- The input projection computes its reference's results. -/
theorem in_algebraic : Cert.algebraic_InProjIdeal_InProjRefIdeal := by
  intro m ρ m' ρ' _ hagree
  refine ⟨_, _, Cert.InProjIdeal.Hand.run m ρ, ?_⟩
  refine (θ_run _ _ _).mono (fun r h c => ⟨(h c).1.trans ?_, (h c).2.1.trans ?_, (h c).2.2⟩) (Cert.InProjRefIdeal.Value.run m' ρ')
  · obtain ⟨h0, h1, h2⟩ := hagree c
    rw [h0, h1, h2]
  · obtain ⟨h0, h1, h2⟩ := hagree c
    rw [h0, h1, h2]

/-- The output projection computes its reference's result. -/
theorem out_algebraic : Cert.algebraic_OutProjIdeal_OutProjRefIdeal := by
  intro m ρ m' ρ' _ hagree
  refine ⟨_, (θ_run _ _ _).mono (fun r h c => ⟨(h c).1.trans (Cert.Proof.OutValue.final m c), (h c).2⟩)
    (Cert.OutProjIdeal.Value.run_blocks m ρ), ?_⟩
  refine (θ_run _ _ _).mono (fun r h c => ⟨(h c).1.trans ?_, (h c).2⟩) (Cert.OutProjRefIdeal.Value.run m' ρ')
  obtain ⟨h0, h1, h2, h3⟩ := hagree c
  rw [h0, h1, h2, h3]

end Cert.Proof

end
-- ==== Proof.FfnRun.lean ====
/-
  Hand-written. The run of `ConvFfnIdeal`'s body with its contents named: the normalised rows with their halos in the scratch,
  the accumulated block, and the last point's final norm, as functions of the input blocks.
-/
module

public import proofs.«01_k».proof.Proof.Gen.ConvFfnIdeal.Frame
public import proofs.«01_k».proof.Proof.Gen.ConvFfnIdeal.Skeleton
public import Idealize.ShloMosaic.Lib.WritesUnit
public import Idealize.ShloMosaic.Lib.VecWindow
public import Idealize.ShloMosaic.Lib.Pipeline.ValueKit

@[expose] public section

set_option maxRecDepth 16384

noncomputable section

namespace Cert.ConvFfnIdeal.Hand

open Cert.ConvFfnIdeal Cert.ConvFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Rows `256·q` to `256·q + 255` of a block. -/
def rows (q : ℕ) (hq : q < 4) (x : Vec F S1024x2048 .f32) : Vec F S256x2048 .f32 :=
  fun y => x (ix2 ⟨256 * q + (y 0).val, by have := (y 0).isLt; show _ < 1024; change (y 0).val < 256 at this; omega⟩ (y 1))

/-- The normalised rows of a block, 256 rows at a time. -/
def nrm (x : Vec F S1024x2048 .f32) (w : Vec F S1x2048 .f32) : Vec F S1024x2048 .bf16 :=
  fun j => k0_pay3 (rows ((j 0).val / 256) (by have := (j 0).isLt; change (j 0).val < 1024 at this; omega) x) w
    (ix2 ⟨(j 0).val % 256, Nat.mod_lt _ (by decide)⟩ (j 1))

/-- The final norm of a block, 256 rows at a time. -/
def fin (x : Vec F S1024x2048 .f32) (w : Vec F S1x2048 .f32) : Vec F S1024x2048 .f32 :=
  fun j => k0_pay2 (rows ((j 0).val / 256) (by have := (j 0).isLt; change (j 0).val < 1024 at this; omega) x) w
    (ix2 ⟨(j 0).val % 256, Nat.mod_lt _ (by decide)⟩ (j 1))

/-- A row of a block in the scratch, behind the halo of sixteen rows. -/
def sh (j : S1024x2048.Idx) : S1056x2048.Idx :=
  ix2 ⟨16 + (j 0).val, by have := (j 0).isLt; show _ < 1056; change (j 0).val < 1024 at this; omega⟩ (j 1)

/-- One trip of the first loop: the rows below `256·k` normalised before it, the rows below `256·(k+1)` after. -/
theorem trip_read (v : View sig .tc .vmem S1056x2048 .bf16) (f : v.ty.Contents (Elt F)) (x : Vec F S1024x2048 .f32)
    (w : Vec F S1x2048 .f32) (k : ℕ) (hk : k < 4) (off : Fin 2 → ℕ) (hoff : off = ![256 * k + 16, 0])
    (inb : ∀ a, off a + S256x2048.size a ≤ S1056x2048.size a) (v18 : Vec F S256x2048 .f32) (h18 : v18 = rows k hk x)
    (h : ∀ j : S1024x2048.Idx, (j 0).val < 256 * k → v.read (Elt F) f (sh j) = nrm x w j) (j : S1024x2048.Idx) (hj : (j 0).val < 256 * (k + 1)) :
    v.read (Elt F) (v.writes (Elt F) f [⟨Rect.unit off S256x2048.size inb, k0_pay3 v18 w⟩]) (sh j) = nrm x w j := by
  subst h18
  by_cases hlt : (j 0).val < 256 * k
  · rw [View.read_writes_cons_unit_of_not_mem v f inb _ [] (sh j) hoff (0 : Fin 2)
      (Or.inl (by show 16 + (j 0).val < 256 * k + 16; omega)), View.writes_nil]
    exact h j hlt
  · have e : (j 0).val / 256 = k := by omega
    refine (View.read_writes_cons_unit_of_mem v f inb _ [] (sh j)
      (ix2 ⟨(j 0).val % 256, Nat.mod_lt _ (by decide)⟩ (j 1) : S256x2048.Idx) hoff (fun a => ?_)).trans ?_
    · match a with
      | ⟨0, _⟩ => show 16 + (j 0).val = 256 * k + 16 + (j 0).val % 256; omega
      | ⟨1, _⟩ => show (j 1).val = 0 + (j 1).val; omega
    · unfold nrm
      subst e
      rfl

/-- The first loop's invariant: before trip `k` the scratch holds the normalised rows below `256·k`. -/
abbrev inv1 (c : Dev nD) (arg2 : Memref sig .tc .vmem S1024x2048 .f32) (harg2 : arg2.IsWhole) (arg5 : Memref sig .tc .vmem S1x2048 .f32) (harg5 : arg5.IsWhole) (arg13 : Memref sig .tc .vmem S1056x2048 .bf16)
    (x0 : Vec F S1024x2048 .f32) (x3 : Vec F S1x2048 .f32) (k : ℕ) (_u : PUnit) : sProp 𝕄 :=
  iprop((arg2.view.loc (c : Thread nD τ) ↦[arg2.view.set]{fullShare} harg2.unread x0)
    ∗ (arg5.view.loc (c : Thread nD τ) ↦[arg5.view.set]{fullShare} harg5.unread x3)
    ∗ (∃ f, (arg13.view.loc (c : Thread nD τ) ↦[arg13.view.set]{fullShare} f)
        ∗ ⌜∀ j : S1024x2048.Idx, (j 0).val < 256 * k → arg13.view.read (Elt F) f (sh j) = nrm x0 x3 j⌝))

set_option warn.classDefReducibility false in
set_option maxHeartbeats 1000000 in
/-- The first loop by its invariant. -/
@[sl_loop] def loopN (𝒱 : Variants) (c : Dev nD) (bd : Option 𝒱.V) (E : Set ℕ) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1024x2048 .f32) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (arg0 : BitVec 32) (k0_h1 : k0_cond1 i = 1#1)
    (x0 : Vec F S1024x2048 .f32) (x3 : Vec F S1x2048 .f32) :
    Idealize.ShloMosaic.LoopInv (M := 𝕄) Idealize.ShloMosaic.frame (wpE (defs₀ (F := F)) 𝒱 (c : Thread nD τ) bd) E
      k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 k0_h1) where
  inv := inv1 c arg2 harg2 arg5 harg5 arg13 x0 x3
  step k acc := by
    have hk : k.val < 4 := Nat.lt_of_lt_of_le k.isLt k0_t1_abs.2.1
    unfold k0_t1_body
    iintro ⟨H2, H5, ⟨%f, H13, %hf⟩⟩
    sl_exec
    sl_step
    isplitl [H2]; · iexact H2
    isplitl [H5]; · iexact H5
    iexists _; isplitl [H13]; · iexact H13
    ipureintro
    intro j hj
    have e1 : View.readAt (Elt F) arg5.view (Rect.unit ![0, 0] S1x2048.size inb_S1x2048_S1x2048_0_0).toLoadRect (harg5.unread x3) = x3 := by
      rw [View.readAt_eq_ld, harg5.read_unread]
      exact (View.ld_unit_lit inb_S1x2048_S1x2048_0_0 x3 (by decide))
    rw [e1]
    refine trip_read arg13.view f x0 x3 k.val hk _ (k0_off2_eq k) _ _ ?_ hf j hj
    rw [View.readAt_eq_ld, harg2.read_unread]
    funext y
    refine View.ld_unit_apply_of x0 _ _ _ y _ (fun a => ?_)
    refine Eq.trans ?_ (congrArg (· + (y a).val) (congrFun (k0_off1_eq k) a).symm)
    match a with
    | ⟨0, _⟩ => rfl
    | ⟨1, _⟩ => exact (Nat.zero_add _).symm

/-- The output's contents after the second loop's first `k` trips, from the contents before it. -/
def st2 (v : View sig .tc .vmem S1024x2048 .f32) (w : Vec F S1x2048 .f32) (i : grid0.Coords) (h2 : k0_cond2 i = 1#1)
    (G : v.ty.Contents (Elt F)) : ℕ → v.ty.Contents (Elt F)
  | 0 => G
  | k + 1 => if h : k < k0_t2_loop.trips then
      v.writes (Elt F) (st2 v w i h2 G k) [⟨Rect.unit (s := S1024x2048) (k0_off3 ⟨k, h⟩) S256x2048.size (k0_off3_inb i ⟨k, h⟩ h2),
        k0_pay2 (View.readAt (Elt F) v (Rect.unit (s := S1024x2048) (k0_off3 ⟨k, h⟩) S256x2048.size (k0_off3_inb i ⟨k, h⟩ h2)).toLoadRect (st2 v w i h2 G k)) w⟩]
    else st2 v w i h2 G k

theorem st2_succ (v : View sig .tc .vmem S1024x2048 .f32) (w : Vec F S1x2048 .f32) (i : grid0.Coords) (h2 : k0_cond2 i = 1#1)
    (G : v.ty.Contents (Elt F)) (k : Fin k0_t2_loop.trips) : st2 v w i h2 G (k.val + 1)
      = v.writes (Elt F) (st2 v w i h2 G k.val) [⟨Rect.unit (s := S1024x2048) (k0_off3 k) S256x2048.size (k0_off3_inb i k h2),
        k0_pay2 (View.readAt (Elt F) v (Rect.unit (s := S1024x2048) (k0_off3 k) S256x2048.size (k0_off3_inb i k h2)).toLoadRect (st2 v w i h2 G k.val)) w⟩] := by
  rw [st2, dif_pos k.isLt]

/-- The second loop's invariant: before trip `k` the output holds `st2` of the contents it was entered with. -/
abbrev inv2 (c : Dev nD) (i : grid0.Coords) (h2 : k0_cond2 i = 1#1) (arg11 : Memref sig .tc .vmem S1x2048 .f32) (harg11 : arg11.IsWhole) (arg12 : Memref sig .tc .vmem S1024x2048 .f32)
    (x9 : Vec F S1x2048 .f32) (G : BufTy.Contents (Elt F) arg12.view.ty) (k : ℕ) (_u : PUnit) : sProp 𝕄 :=
  iprop((arg11.view.loc (c : Thread nD τ) ↦[arg11.view.set]{fullShare} harg11.unread x9)
    ∗ (∃ f, (arg12.view.loc (c : Thread nD τ) ↦[arg12.view.set]{fullShare} f) ∗ ⌜f = st2 arg12.view x9 i h2 G k⌝))

set_option warn.classDefReducibility false in
set_option maxHeartbeats 1000000 in
/-- The second loop by its invariant. -/
@[sl_loop] def loopO (𝒱 : Variants) (c : Dev nD) (bd : Option 𝒱.V) (E : Set ℕ) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1024x2048 .f32) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (k0_h2 : k0_cond2 i = 1#1)
    (x9 : Vec F S1x2048 .f32) (G : BufTy.Contents (Elt F) arg12.view.ty) :
    Idealize.ShloMosaic.LoopInv (M := 𝕄) Idealize.ShloMosaic.frame (wpE (defs₀ (F := F)) 𝒱 (c : Thread nD τ) bd) E
      k0_t2_loop.lb k0_t2_loop.ub k0_t2_loop.st (k0_t2_ok i k0_h2) () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 k0_h2) where
  inv := inv2 c i k0_h2 arg11 harg11 arg12 x9 G
  step k acc := by
    unfold k0_t2_body
    iintro ⟨H11, ⟨%f, H12, %hf⟩⟩
    sl_exec
    sl_step
    isplitl [H11]; · iexact H11
    iexists _; isplitl [H12]; · iexact H12
    ipureintro
    have e1 : View.readAt (Elt F) arg11.view (Rect.unit ![0, 0] S1x2048.size inb_S1x2048_S1x2048_0_0).toLoadRect (harg11.unread x9) = x9 := by
      rw [View.readAt_eq_ld, harg11.read_unread]
      exact (View.ld_unit_lit inb_S1x2048_S1x2048_0_0 x9 (by decide))
    rw [e1, st2_succ, hf]

/-- What the second loop leaves: the rows done so far at their final norm, the others as they were. -/
theorem st2_read (v : View sig .tc .vmem S1024x2048 .f32) (w : Vec F S1x2048 .f32) (i : grid0.Coords) (h2 : k0_cond2 i = 1#1)
    (G : v.ty.Contents (Elt F)) : ∀ k, k ≤ k0_t2_loop.trips → ∀ j : S1024x2048.Idx,
      v.read (Elt F) (st2 v w i h2 G k) j = if (j 0).val < 256 * k then fin (v.read (Elt F) G) w j else v.read (Elt F) G j
  | 0, _, j => by rw [if_neg (by omega)]; rfl
  | k + 1, hk, j => by
    have ih := st2_read v w i h2 G k (by omega)
    have hk4 : k < 4 := Nat.lt_of_lt_of_le hk k0_t2_abs.2.1
    have e := st2_succ v w i h2 G ⟨k, hk⟩
    rw [show st2 v w i h2 G (k + 1) = _ from e]
    by_cases hlt : (j 0).val < 256 * k
    · rw [View.read_writes_cons_unit_of_not_mem v _ _ _ [] j (k0_off3_eq ⟨k, hk⟩) (0 : Fin 2) (Or.inl hlt), View.writes_nil, ih j,
        if_pos hlt, if_pos (by omega)]
    · by_cases hge : (j 0).val < 256 * (k + 1)
      · have ek : (j 0).val / 256 = k := by omega
        rw [if_pos hge]
        refine (View.read_writes_cons_unit_of_mem v _ _ _ [] j
          (ix2 ⟨(j 0).val % 256, Nat.mod_lt _ (by decide)⟩ (j 1) : S256x2048.Idx) (k0_off3_eq ⟨k, hk⟩) (fun a => ?_)).trans ?_
        · match a with
          | ⟨0, _⟩ => show (j 0).val = 256 * k + (j 0).val % 256; omega
          | ⟨1, _⟩ => show (j 1).val = 0 + (j 1).val; omega
        · have er : View.readAt (Elt F) v (Rect.unit (s := S1024x2048) (k0_off3 ⟨k, hk⟩) S256x2048.size (k0_off3_inb i ⟨k, hk⟩ h2)).toLoadRect (st2 v w i h2 G k)
              = rows k hk4 (v.read (Elt F) G) := by
            rw [View.readAt_eq_ld]
            funext y
            have hy : (y 0).val < 256 := (y 0).isLt
            refine (View.ld_unit_apply_of _ _ _ _ y (ix2 ⟨256 * k + (y 0).val, by show _ < 1024; omega⟩ (y 1) : S1024x2048.Idx) (fun a => ?_)).trans ?_
            · refine Eq.trans ?_ (congrArg (· + (y a).val) (congrFun (k0_off3_eq ⟨k, hk⟩) a).symm)
              match a with
              | ⟨0, _⟩ => rfl
              | ⟨1, _⟩ => exact (Nat.zero_add _).symm
            · rw [ih, if_neg (by show ¬ 256 * k + (y 0).val < 256 * k; omega)]; rfl
          rw [er]
          unfold fin
          subst ek
          rfl
      · rw [View.read_writes_cons_unit_of_not_mem v _ _ _ [] j (k0_off3_eq ⟨k, hk⟩) (0 : Fin 2)
          (Or.inr (by show 256 * k + 256 ≤ (j 0).val; omega)), View.writes_nil, ih j, if_neg hlt, if_neg hge]

/-! ## What the body computes -/

/-- Whether the row block has a row block before it in its sequence. -/
def hasPrev (i : grid0.Coords) : BitVec 1 :=
  let v65 : BitVec 32 := Scalar.muli (BitVec.ofNat 32 (i 0).val) 1024#32
  let v67 : BitVec 32 := Scalar.select (Scalar.cmpi .eq 2048#32 0#32) 1#32 2048#32
  let v68 : BitVec 32 := Scalar.remsi v65 v67
  Scalar.cmpi .ne (Scalar.select (Scalar.andi (Scalar.xori (Scalar.cmpi .slt v68 0#32) (Scalar.cmpi .slt v67 0#32)) (Scalar.cmpi .ne v68 0#32)) (Scalar.addi v68 v67) v68) 0#32

/-- Whether it has one behind it. -/
def hasNext (i : grid0.Coords) : BitVec 1 :=
  let v78 : BitVec 32 := Scalar.muli (Scalar.addi (BitVec.ofNat 32 (i 0).val) 1#32) 1024#32
  let v80 : BitVec 32 := Scalar.select (Scalar.cmpi .eq 2048#32 0#32) 1#32 2048#32
  let v81 : BitVec 32 := Scalar.remsi v78 v80
  Scalar.cmpi .ne (Scalar.select (Scalar.andi (Scalar.xori (Scalar.cmpi .slt v81 0#32) (Scalar.cmpi .slt v80 0#32)) (Scalar.cmpi .ne v81 0#32)) (Scalar.addi v81 v80) v81) 0#32

/-- The halo before the block, normalised, or zero at a sequence's start. -/
def halo0 (i : grid0.Coords) (hp : Vec F S16x2048 .f32) (w : Vec F S1x2048 .f32) : Vec F S16x2048 .bf16 :=
  k0_pay6 (hasPrev i) hp (k0_pay4 w) (k0_pay5 hp) (Scalar.ofBits .f32 0x45000000#32)

/-- The halo behind it, normalised, or zero at a sequence's end. -/
def halo1 (i : grid0.Coords) (hn : Vec F S16x2048 .f32) (w : Vec F S1x2048 .f32) : Vec F S16x2048 .bf16 :=
  k0_pay7 (hasNext i) hn w

/-- The scratch: the halo before, the block's normalised rows, the halo behind. -/
def nscr (i : grid0.Coords) (x : Vec F S1024x2048 .f32) (hp hn : Vec F S16x2048 .f32) (w : Vec F S1x2048 .f32) : Vec F S1056x2048 .bf16 :=
  fun j => if h0 : (j 0).val < 16 then halo0 i hp w (ix2 ⟨(j 0).val, h0⟩ (j 1))
    else if h1 : (j 0).val < 1040 then nrm x w (ix2 ⟨(j 0).val - 16, by show _ < 1024; omega⟩ (j 1))
    else halo1 i hn w (ix2 ⟨(j 0).val - 1040, by have := (j 0).isLt; show _ < 16; change (j 0).val < 1056 at this; omega⟩ (j 1))

/-- The 1024 rows of a product from row `r`. -/
def sub (r : ℕ) (hr : r ≤ 32) (u : Vec F S1056x512 .f32) : Vec F S1024x512 .f32 :=
  fun y => u (ix2 ⟨r + (y 0).val, by have := (y 0).isLt; show _ < 1056; change (y 0).val < 1024 at this; omega⟩ (y 1))

/-- A row of the convolution's coefficients. -/
def crow (r : ℕ) (hr : r < 3) (w : Vec F S3x512 .f32) : Vec F S1x512 .f32 := fun y => w (ix2 ⟨r, hr⟩ (y 1))

/-- One column block's addition to the accumulated block. -/
def acc (n : Vec F S1056x2048 .bf16) (wg wv : Vec F S2048x512 .bf16) (cg cv : Vec F S3x512 .f32) (wo : Vec F S512x2048 .bf16)
    (o : Vec F S1024x2048 .f32) : Vec F S1024x2048 .f32 :=
  k0_pay1 (k0_pay10 (sub 15 (by decide) (k0_pay8 n wg)) (crow 0 (by decide) cg) (sub 16 (by decide) (k0_pay8 n wg)) (crow 1 (by decide) cg))
    (sub 17 (by decide) (k0_pay8 n wg)) (crow 2 (by decide) cg)
    (sub 15 (by decide) (k0_pay9 n wv)) (crow 0 (by decide) cv) (sub 16 (by decide) (k0_pay9 n wv)) (crow 1 (by decide) cv)
    (sub 17 (by decide) (k0_pay9 n wv)) (crow 2 (by decide) cv) o wo

/-! ## The runs -/

/-- A load of a whole buffer reads its contents. -/
theorem readAt_whole {S : Shape} {e : EltTy} {off : Fin S.rank → ℕ} (v : View sig .tc .vmem S e) (f : v.ty.Contents (Elt F))
    (inb : ∀ a, off a + S.size a ≤ S.size a) (h : ∀ a, off a = 0) :
    View.readAt (Elt F) v (Rect.unit off (no_index S.size) inb).toLoadRect f = v.read (Elt F) f := by
  rw [View.readAt_eq_ld]; exact View.ld_unit_lit inb _ h

/-- A store to a whole buffer leaves its payload, whatever was stored before. -/
theorem read_writes_whole {S : Shape} {e : EltTy} {off : Fin S.rank → ℕ} (v : View sig .tc .vmem S e) (f : v.ty.Contents (Elt F))
    (inb : ∀ a, off a + S.size a ≤ S.size a) (w : S.Idx → Elt F e) (L : List (View.Piece (Elt F) S e)) :
    v.read (Elt F) (v.writes (Elt F) f (⟨Rect.unit off S.size inb, w⟩ :: L)) = w :=
  View.read_writes_full v f inb w L

/-- A load of 1024 rows of a product. -/
theorem readAt_sub (v : View sig .tc .vmem S1056x512 .f32) (f : v.ty.Contents (Elt F)) (r : ℕ) (hr : r ≤ 32)
    (inb : ∀ a, (![r, 0] : Fin 2 → ℕ) a + S1024x512.size a ≤ S1056x512.size a) :
    View.readAt (Elt F) v (Rect.unit (s := S1056x512) ![r, 0] S1024x512.size inb).toLoadRect f = sub r hr (v.read (Elt F) f) := by
  rw [View.readAt_eq_ld]
  funext y
  refine View.ld_unit_apply_of _ _ _ _ y _ (fun a => ?_)
  match a with
  | ⟨0, _⟩ => rfl
  | ⟨1, _⟩ => exact (Nat.zero_add _).symm

/-- A load of a row of coefficients. -/
theorem readAt_crow (v : View sig .tc .vmem S3x512 .f32) (f : v.ty.Contents (Elt F)) (r : ℕ) (hr : r < 3)
    (inb : ∀ a, (![r, 0] : Fin 2 → ℕ) a + S1x512.size a ≤ S3x512.size a) :
    View.readAt (Elt F) v (Rect.unit (s := S3x512) ![r, 0] S1x512.size inb).toLoadRect f = crow r hr (v.read (Elt F) f) := by
  rw [View.readAt_eq_ld]
  funext y
  have hy : (y 0).val = 0 := by have := (y 0).isLt; change (y 0).val < 1 at this; omega
  refine View.ld_unit_apply_of _ _ _ _ y _ (fun a => ?_)
  match a with
  | ⟨0, _⟩ => show r = r + (y 0).val; omega
  | ⟨1, _⟩ => exact (Nat.zero_add _).symm

/-- The same after a store of the whole product. -/
theorem readCov_sub (v : View sig .tc .vmem S1056x512 .f32) (w : Vec F S1056x512 .f32) (r : ℕ) (hr : r ≤ 32) (inb0 : ∀ a, (![0, 0] : Fin 2 → ℕ) a + S1056x512.size a ≤ S1056x512.size a)
    (inb : ∀ a, (![r, 0] : Fin 2 → ℕ) a + S1024x512.size a ≤ S1056x512.size a) (L : List (View.Piece (Elt F) S1056x512 .f32)) :
    v.readCov (⟨Rect.unit (s := S1056x512) ![0, 0] S1056x512.size inb0, w⟩ :: L) (Rect.unit (s := S1056x512) ![r, 0] S1024x512.size inb).toLoadRect = sub r hr w := by
  unfold View.readCov
  rw [readAt_sub, View.read_writes_full]

/-- The scratch after the loop and the two halo stores. -/
theorem scratch_read (v : View sig .tc .vmem S1056x2048 .bf16) (f : v.ty.Contents (Elt F)) (i : grid0.Coords)
    (x : Vec F S1024x2048 .f32) (hp hn : Vec F S16x2048 .f32) (w : Vec F S1x2048 .f32)
    (inb0 : ∀ a, (![0, 0] : Fin 2 → ℕ) a + S16x2048.size a ≤ S1056x2048.size a)
    (inb1 : ∀ a, (![1040, 0] : Fin 2 → ℕ) a + S16x2048.size a ≤ S1056x2048.size a)
    (h : ∀ j : S1024x2048.Idx, v.read (Elt F) f (sh j) = nrm x w j) :
    v.read (Elt F) (v.writes (Elt F) f [⟨Rect.unit (s := S1056x2048) ![1040, 0] S16x2048.size inb1, halo1 i hn w⟩,
      ⟨Rect.unit (s := S1056x2048) ![0, 0] S16x2048.size inb0, halo0 i hp w⟩]) = nscr i x hp hn w := by
  funext j
  have hj : (j 0).val < 1056 := (j 0).isLt
  unfold nscr
  by_cases h0 : (j 0).val < 16
  · rw [dif_pos h0, View.read_writes_cons_unit_of_not_mem v f inb1 _ _ j rfl (0 : Fin 2) (Or.inl (by show (j 0).val < 1040; omega))]
    refine View.read_writes_cons_unit_of_mem v f inb0 _ [] j (ix2 ⟨(j 0).val, h0⟩ (j 1) : S16x2048.Idx) rfl (fun a => ?_)
    match a with
    | ⟨0, _⟩ => exact (Nat.zero_add _).symm
    | ⟨1, _⟩ => exact (Nat.zero_add _).symm
  · rw [dif_neg h0]
    by_cases h1 : (j 0).val < 1040
    · rw [dif_pos h1, View.read_writes_cons_unit_of_not_mem v f inb1 _ _ j rfl (0 : Fin 2) (Or.inl h1),
        View.read_writes_cons_unit_of_not_mem v f inb0 _ _ j rfl (0 : Fin 2) (Or.inr (by show 0 + 16 ≤ (j 0).val; omega)), View.writes_nil]
      rw [← h]
      congr 1
      funext a
      match a with
      | ⟨0, _⟩ => exact Fin.ext (by show (j 0).val = 16 + ((j 0).val - 16); omega)
      | ⟨1, _⟩ => rfl
    · rw [dif_neg h1]
      refine View.read_writes_cons_unit_of_mem v f inb1 _ _ j (ix2 ⟨(j 0).val - 1040, by show _ < 16; omega⟩ (j 1) : S16x2048.Idx) rfl (fun a => ?_)
      match a with
      | ⟨0, _⟩ => show (j 0).val = 1040 + ((j 0).val - 1040); omega
      | ⟨1, _⟩ => exact (Nat.zero_add _).symm

set_option maxHeartbeats 4000000 in
/-- The body at the first column block of a row block: the rows and their halos are normalised into the scratch, and the first term is added to the block itself. -/
theorem runA (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1024x2048 .f32) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : k0_cond1 i = 1#1) (hc1 : ¬ k0_cond2 i = 1#1)
    (x0 : Vec F S1024x2048 .f32) (x1 : Vec F S16x2048 .f32) (x2 : Vec F S16x2048 .f32) (x3 : Vec F S1x2048 .f32) (x4 : Vec F S2048x512 .bf16) (x5 : Vec F S2048x512 .bf16) (x6 : Vec F S3x512 .f32) (x7 : Vec F S3x512 .f32) (x8 : Vec F S512x2048 .bf16) (x9 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (acc (nscr i x0 x1 x2 x3) x4 x5 x6 x7 x8 x0) ∗ owns (c : Thread nD τ) arg13 fullShare (nscr i x0 x1 x2 x3) ∗ (∃ d, owns (c : Thread nD τ) arg14 fullShare d) ∗ (∃ d, owns (c : Thread nD τ) arg15 fullShare d)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_conv_ffn_eq_skeleton]; unfold cc0_conv_ffn_skel
    simp only [k0_part3_eq_skeleton]; unfold k0_part3_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fo, -, HO⟩, ⟨%dS, %fs, -, HS⟩, ⟨%dg, %fg, -, HG⟩, ⟨%dv, %fv, -, HV⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    simp only [dif_pos hc0, dif_neg hc1, bind_assoc, pure_bind]
    sl_exec (disch := first | sl_exact hc0 | sl_exact hc1)
    sl_step
    have e2 : View.readAt (Elt F) arg2.view (Rect.unit (s := S1024x2048) ![0, 0] ![1024, 2048] inb_S1024x2048_S1024x2048_0_0).toLoadRect (harg2.unread x0) = x0 :=
      (readAt_whole arg2.view _ inb_S1024x2048_S1024x2048_0_0 (by decide)).trans (harg2.read_unread _)
    have e3 : View.readAt (Elt F) arg3.view (Rect.unit (s := S16x2048) ![0, 0] ![16, 2048] inb_S16x2048_S16x2048_0_0).toLoadRect (harg3.unread x1) = x1 :=
      (readAt_whole arg3.view _ inb_S16x2048_S16x2048_0_0 (by decide)).trans (harg3.read_unread _)
    have e4 : View.readAt (Elt F) arg4.view (Rect.unit (s := S16x2048) ![0, 0] ![16, 2048] inb_S16x2048_S16x2048_0_0).toLoadRect (harg4.unread x2) = x2 :=
      (readAt_whole arg4.view _ inb_S16x2048_S16x2048_0_0 (by decide)).trans (harg4.read_unread _)
    have e5 : View.readAt (Elt F) arg5.view (Rect.unit (s := S1x2048) ![0, 0] ![1, 2048] inb_S1x2048_S1x2048_0_0).toLoadRect (harg5.unread x3) = x3 :=
      (readAt_whole arg5.view _ inb_S1x2048_S1x2048_0_0 (by decide)).trans (harg5.read_unread _)
    have e6 : View.readAt (Elt F) arg6.view (Rect.unit (s := S2048x512) ![0, 0] ![2048, 512] inb_S2048x512_S2048x512_0_0).toLoadRect (harg6.unread x4) = x4 :=
      (readAt_whole arg6.view _ inb_S2048x512_S2048x512_0_0 (by decide)).trans (harg6.read_unread _)
    have e7 : View.readAt (Elt F) arg7.view (Rect.unit (s := S2048x512) ![0, 0] ![2048, 512] inb_S2048x512_S2048x512_0_0).toLoadRect (harg7.unread x5) = x5 :=
      (readAt_whole arg7.view _ inb_S2048x512_S2048x512_0_0 (by decide)).trans (harg7.read_unread _)
    have e10 : View.readAt (Elt F) arg10.view (Rect.unit (s := S512x2048) ![0, 0] ![512, 2048] inb_S512x2048_S512x2048_0_0).toLoadRect (harg10.unread x8) = x8 :=
      (readAt_whole arg10.view _ inb_S512x2048_S512x2048_0_0 (by decide)).trans (harg10.read_unread _)
    have e13 : arg13.view.read (Elt F) (arg13.view.writes (Elt F) fL0 (runA.sl.HS_2 i arg3 harg3 arg4 harg4 arg5 harg5 x1 x2 x3)) = nscr i x0 x1 x2 x3 := by
      unfold runA.sl.HS_2
      simp only [e3, e4, e5]
      exact scratch_read arg13.view fL0 i x0 x1 x2 x3 _ _ (fun j => hL3 j (j 0).isLt)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HO]
    · iexists _; isplitr; swap; · iexact HO
      ipureintro
      rw [read_writes_whole]
      unfold runA.sl.x runA.sl.x_1 runA.sl.x_2 runA.sl.v33 runA.sl.v38 runA.sl.v44 runA.sl.HG_1 runA.sl.HV_1 runA.sl.v54
      have e12 : arg12.view.readCov (runA.sl.HO_1 arg2 harg2 x0) (Rect.unit (s := S1024x2048) ![0, 0] ![1024, 2048] inb_S1024x2048_S1024x2048_0_0).toLoadRect = x0 := by
        unfold runA.sl.HO_1
        exact (View.readCov_full arg12.view inb_S1024x2048_S1024x2048_0_0 inb_S1024x2048_S1024x2048_0_0 _ []).trans e2
      have e13' : View.readAt (Elt F) arg13.view (Rect.unit (s := S1056x2048) ![0, 0] ![1056, 2048] inb_S1056x2048_S1056x2048_0_0).toLoadRect
          (arg13.view.writes (Elt F) fL0 (runA.sl.HS_2 i arg3 harg3 arg4 harg4 arg5 harg5 x1 x2 x3)) = nscr i x0 x1 x2 x3 :=
        (readAt_whole arg13.view _ inb_S1056x2048_S1056x2048_0_0 (by decide)).trans e13
      simp only [readCov_sub _ _ 15 (by decide), readCov_sub _ _ 16 (by decide), readCov_sub _ _ 17 (by decide),
        readAt_crow _ _ 0 (by decide), readAt_crow _ _ 1 (by decide), readAt_crow _ _ 2 (by decide), harg8.read_unread, harg9.read_unread, e6, e7, e10, e12, e13']
      rfl
    isplitl [HS]
    · iexists _; isplitr; · ipureintro; exact e13
      iexact HS
    isplitl [HG]
    · iexists _; iexists _; isplitr; swap; · iexact HG
      ipureintro; rfl
    iexists _; iexists _; isplitr; swap; · iexact HV
    ipureintro; rfl

set_option maxHeartbeats 4000000 in
/-- The body at a middle column block: the column block's term is added to the accumulated block; the scratch keeps the normalised rows. -/
theorem runB (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1024x2048 .f32) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : ¬ k0_cond1 i = 1#1) (hc1 : ¬ k0_cond2 i = 1#1)
    (x0 : Vec F S1024x2048 .f32) (x1 : Vec F S16x2048 .f32) (x2 : Vec F S16x2048 .f32) (x3 : Vec F S1x2048 .f32) (x4 : Vec F S2048x512 .bf16) (x5 : Vec F S2048x512 .bf16) (x6 : Vec F S3x512 .f32) (x7 : Vec F S3x512 .f32) (x8 : Vec F S512x2048 .bf16) (x9 : Vec F S1x2048 .f32) (o : Vec F S1024x2048 .f32) (xs : Vec F S1056x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare xs ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (acc xs x4 x5 x6 x7 x8 o) ∗ owns (c : Thread nD τ) arg13 fullShare xs ∗ (∃ d, owns (c : Thread nD τ) arg14 fullShare d) ∗ (∃ d, owns (c : Thread nD τ) arg15 fullShare d)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_conv_ffn_eq_skeleton]; unfold cc0_conv_ffn_skel
    simp only [k0_part3_eq_skeleton]; unfold k0_part3_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fs, %hfs, HS⟩, ⟨%dg, %fg, -, HG⟩, ⟨%dv, %fv, -, HV⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    simp only [dif_neg hc0, dif_neg hc1, bind_assoc, pure_bind]
    sl_exec (disch := first | sl_exact hc0 | sl_exact hc1)
    sl_step
    have e6 : View.readAt (Elt F) arg6.view (Rect.unit (s := S2048x512) ![0, 0] ![2048, 512] inb_S2048x512_S2048x512_0_0).toLoadRect (harg6.unread x4) = x4 :=
      (readAt_whole arg6.view _ inb_S2048x512_S2048x512_0_0 (by decide)).trans (harg6.read_unread _)
    have e7 : View.readAt (Elt F) arg7.view (Rect.unit (s := S2048x512) ![0, 0] ![2048, 512] inb_S2048x512_S2048x512_0_0).toLoadRect (harg7.unread x5) = x5 :=
      (readAt_whole arg7.view _ inb_S2048x512_S2048x512_0_0 (by decide)).trans (harg7.read_unread _)
    have e10 : View.readAt (Elt F) arg10.view (Rect.unit (s := S512x2048) ![0, 0] ![512, 2048] inb_S512x2048_S512x2048_0_0).toLoadRect (harg10.unread x8) = x8 :=
      (readAt_whole arg10.view _ inb_S512x2048_S512x2048_0_0 (by decide)).trans (harg10.read_unread _)
    have e13 : View.readAt (Elt F) arg13.view (Rect.unit (s := S1056x2048) ![0, 0] ![1056, 2048] inb_S1056x2048_S1056x2048_0_0).toLoadRect fs = xs :=
      (readAt_whole arg13.view _ inb_S1056x2048_S1056x2048_0_0 (by decide)).trans hfs
    have e12 : View.readAt (Elt F) arg12.view (Rect.unit (s := S1024x2048) ![0, 0] ![1024, 2048] inb_S1024x2048_S1024x2048_0_0).toLoadRect fo = o :=
      (readAt_whole arg12.view _ inb_S1024x2048_S1024x2048_0_0 (by decide)).trans hfo
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HO]
    · iexists _; isplitr; swap; · iexact HO
      ipureintro
      rw [read_writes_whole]
      unfold runB.sl.x runB.sl.x_1 runB.sl.x_2 runB.sl.v33 runB.sl.v38 runB.sl.v44 runB.sl.HG_1 runB.sl.HV_1
      simp only [readCov_sub _ _ 15 (by decide), readCov_sub _ _ 16 (by decide), readCov_sub _ _ 17 (by decide),
        readAt_crow _ _ 0 (by decide), readAt_crow _ _ 1 (by decide), readAt_crow _ _ 2 (by decide), harg8.read_unread, harg9.read_unread, e6, e7, e10, e12, e13]
      rfl
    isplitl [HS]
    · iexists _; isplitr; · ipureintro; exact hfs
      iexact HS
    isplitl [HG]
    · iexists _; iexists _; isplitr; swap; · iexact HG
      ipureintro; rfl
    iexists _; iexists _; isplitr; swap; · iexact HV
    ipureintro; rfl

set_option maxHeartbeats 4000000 in
/-- The body at the last column block: the last term is added, and the rows' final norm taken. -/
theorem runC (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1024x2048 .f32) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : ¬ k0_cond1 i = 1#1) (hc1 : k0_cond2 i = 1#1)
    (x0 : Vec F S1024x2048 .f32) (x1 : Vec F S16x2048 .f32) (x2 : Vec F S16x2048 .f32) (x3 : Vec F S1x2048 .f32) (x4 : Vec F S2048x512 .bf16) (x5 : Vec F S2048x512 .bf16) (x6 : Vec F S3x512 .f32) (x7 : Vec F S3x512 .f32) (x8 : Vec F S512x2048 .bf16) (x9 : Vec F S1x2048 .f32) (o : Vec F S1024x2048 .f32) (xs : Vec F S1056x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare xs ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (fin (acc xs x4 x5 x6 x7 x8 o) x9) ∗ owns (c : Thread nD τ) arg13 fullShare xs ∗ (∃ d, owns (c : Thread nD τ) arg14 fullShare d) ∗ (∃ d, owns (c : Thread nD τ) arg15 fullShare d)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_conv_ffn_eq_skeleton]; unfold cc0_conv_ffn_skel
    simp only [k0_part3_eq_skeleton]; unfold k0_part3_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fs, %hfs, HS⟩, ⟨%dg, %fg, -, HG⟩, ⟨%dv, %fv, -, HV⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    simp only [dif_neg hc0, dif_pos hc1, bind_assoc, pure_bind]
    sl_exec (disch := first | sl_exact hc0 | sl_exact hc1)
    sl_step
    have e6 : View.readAt (Elt F) arg6.view (Rect.unit (s := S2048x512) ![0, 0] ![2048, 512] inb_S2048x512_S2048x512_0_0).toLoadRect (harg6.unread x4) = x4 :=
      (readAt_whole arg6.view _ inb_S2048x512_S2048x512_0_0 (by decide)).trans (harg6.read_unread _)
    have e7 : View.readAt (Elt F) arg7.view (Rect.unit (s := S2048x512) ![0, 0] ![2048, 512] inb_S2048x512_S2048x512_0_0).toLoadRect (harg7.unread x5) = x5 :=
      (readAt_whole arg7.view _ inb_S2048x512_S2048x512_0_0 (by decide)).trans (harg7.read_unread _)
    have e10 : View.readAt (Elt F) arg10.view (Rect.unit (s := S512x2048) ![0, 0] ![512, 2048] inb_S512x2048_S512x2048_0_0).toLoadRect (harg10.unread x8) = x8 :=
      (readAt_whole arg10.view _ inb_S512x2048_S512x2048_0_0 (by decide)).trans (harg10.read_unread _)
    have e13 : View.readAt (Elt F) arg13.view (Rect.unit (s := S1056x2048) ![0, 0] ![1056, 2048] inb_S1056x2048_S1056x2048_0_0).toLoadRect fs = xs :=
      (readAt_whole arg13.view _ inb_S1056x2048_S1056x2048_0_0 (by decide)).trans hfs
    have e12 : View.readAt (Elt F) arg12.view (Rect.unit (s := S1024x2048) ![0, 0] ![1024, 2048] inb_S1024x2048_S1024x2048_0_0).toLoadRect fo = o :=
      (readAt_whole arg12.view _ inb_S1024x2048_S1024x2048_0_0 (by decide)).trans hfo
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HO]
    · iexists _; isplitr; swap; · iexact HO
      ipureintro
      refine funext fun j => (st2_read arg12.view x9 i hc1 _ _ (Nat.le_refl _) j).trans ?_
      rw [if_pos (show (j 0).val < 256 * k0_t2_loop.trips from (j 0).isLt)]
      refine congrArg (fun z => fin z x9 j) ?_
      refine (View.read_writes_full arg12.view _ inb_S1024x2048_S1024x2048_0_0 _ []).trans ?_
      unfold runC.sl.x runC.sl.x_1 runC.sl.x_2 runC.sl.v33 runC.sl.v38 runC.sl.v44 runC.sl.HG_1 runC.sl.HV_1
      simp only [readCov_sub _ _ 15 (by decide), readCov_sub _ _ 16 (by decide), readCov_sub _ _ 17 (by decide),
        readAt_crow _ _ 0 (by decide), readAt_crow _ _ 1 (by decide), readAt_crow _ _ 2 (by decide), harg8.read_unread, harg9.read_unread, e6, e7, e10, e12, e13]
      rfl
    isplitl [HS]
    · iexists _; isplitr; · ipureintro; exact hfs
      iexact HS
    isplitl [HG]
    · iexists _; iexists _; isplitr; swap; · iexact HG
      ipureintro; rfl
    iexists _; iexists _; isplitr; swap; · iexact HV
    ipureintro; rfl

end Cert.ConvFfnIdeal.Hand

end
-- ==== Proof.FfnFrame.lean ====
/-
  Hand-written. `ConvFfnIdeal`'s pipeline with its contents named: what every point leaves in the output window and in the
  scratch, the body's obligation, and the launch.
-/
module

public import proofs.«01_k».proof.Proof.FfnRun
public import Idealize.ShloMosaic.Lib.Pipeline.TableIdle
public import Idealize.ShloMosaic.Lib.Pipeline.ValueKit

@[expose] public section

set_option maxRecDepth 16384

noncomputable section

namespace Cert.ConvFfnIdeal.Hand

open Cert.ConvFfnIdeal Cert.ConvFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's coordinates. -/
theorem coord0 (t : Fin cfg0.N) : (grid0.coords t 0).val = t.val / 11 := by
  have ht : t.val < 352 := Nat.lt_of_lt_of_eq t.isLt N_0
  have e0 : (grid0.coords t 0).val = t.val / 11 % 32 := Pipeline.Grid.coords_val t 0 (by decide) rfl
  omega
theorem coord1 (t : Fin cfg0.N) : (grid0.coords t 1).val = t.val % 11 := by
  have e1 : (grid0.coords t 1).val = t.val / 1 % 11 := Pipeline.Grid.coords_val t 1 (by decide) rfl
  omega

/-- The first branch is taken at the first point of a row block, -/
theorem hcond0_0 : ∀ t : Fin cfg0.N, k0_cond1 (grid0.coords t) = 1#1 ↔ t.val % 11 = 0 :=
  (fun t => by
    have ht : t.val < 352 := Nat.lt_of_lt_of_eq t.isLt N_0
    have e0 := coord0 t
    have e1 := coord1 t
    simp only [k0_cond1, e0, e1]
    word_cmp
   : ∀ t : Fin grid0.N, k0_cond1 (grid0.coords t) = 1#1 ↔ t.val % 11 = 0)
/-- the second at its last. -/
theorem hcond0_1 : ∀ t : Fin cfg0.N, k0_cond2 (grid0.coords t) = 1#1 ↔ t.val % 11 = 10 :=
  (fun t => by
    have ht : t.val < 352 := Nat.lt_of_lt_of_eq t.isLt N_0
    have e0 := coord0 t
    have e1 := coord1 t
    simp only [k0_cond2, e0, e1]
    word_cmp
   : ∀ t : Fin grid0.N, k0_cond2 (grid0.coords t) = 1#1 ↔ t.val % 11 = 10)

/-- Each window's current staging memref at point `t`, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x2048 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1056x2048 .bf16 := Memref.whole cc0_scratch0
abbrev scM0_1 : Memref sig .tc .vmem S1056x512 .f32 := Memref.whole cc0_scratch1
abbrev scM0_2 : Memref sig .tc .vmem S1056x512 .f32 := Memref.whole cc0_scratch2

/-- The invariant's scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Blocks that stay put along a row block -/

/-- The windows' block indices at a point. -/
theorem idx : ∀ t : Fin cfg0.N, win0_0.index t = ![t.val / 11, 0] ∧ win0_1.index t = ![64 * (t.val / 11) - 1, 0]
    ∧ win0_2.index t = ![min (64 * (t.val / 11) + 64) 2047, 0] ∧ win0_3.index t = ![0, 0]
    ∧ win0_4.index t = ![0, t.val % 11] ∧ win0_5.index t = ![0, t.val % 11 + 11]
    ∧ win0_6.index t = ![0, t.val % 11] ∧ win0_7.index t = ![0, t.val % 11 + 11]
    ∧ win0_8.index t = ![t.val % 11, 0] ∧ win0_9.index t = ![0, 0] ∧ win0_10.index t = ![t.val / 11, 0] :=
  (by decide +kernel : ∀ t : Fin grid0.N, _)

/-- The block of rows at a point, read off the array. -/
theorem iblk0_apply (c : Dev nD) (t : Fin cfg0.N) (y : S1024x2048.Idx) (i : S32768x2048.Idx)
    (h0 : (i 0).val = t.val / 11 * 1024 + (y 0).val) (h1 : (i 1).val = (y 1).val) :
    (iblk m c 0 t : Vec F S1024x2048 .f32) y = (V m c main_arg0 : Vec F S32768x2048 .f32) i := by
  blk_simp [iblk, idx t]
  blk_ext [idx t]

/-- The sixteen rows before the block (at the array's start, its first sixteen). -/
theorem iblk1_apply (c : Dev nD) (t : Fin cfg0.N) (y : S16x2048.Idx) (i : S32768x2048.Idx)
    (h0 : (i 0).val = (64 * (t.val / 11) - 1) * 16 + (y 0).val) (h1 : (i 1).val = (y 1).val) :
    (iblk m c 1 t : Vec F S16x2048 .f32) y = (V m c main_arg0 : Vec F S32768x2048 .f32) i := by
  blk_simp [iblk, idx t]
  blk_ext [idx t]

/-- The sixteen rows behind the block (at the array's end, its last sixteen). -/
theorem iblk2_apply (c : Dev nD) (t : Fin cfg0.N) (y : S16x2048.Idx) (i : S32768x2048.Idx)
    (h0 : (i 0).val = min (64 * (t.val / 11) + 64) 2047 * 16 + (y 0).val) (h1 : (i 1).val = (y 1).val) :
    (iblk m c 2 t : Vec F S16x2048 .f32) y = (V m c main_arg0 : Vec F S32768x2048 .f32) i := by
  blk_simp [iblk, idx t]
  blk_ext [idx t]

/-- The norm's weight at a point. -/
theorem iblk3_apply (c : Dev nD) (t : Fin cfg0.N) (y : S1x2048.Idx) (i : S1x2048.Idx)
    (h1 : (i 1).val = (y 1).val) :
    (iblk m c 3 t : Vec F S1x2048 .f32) y = (V m c main_v6 : Vec F S1x2048 .f32) i := by
  blk_simp [iblk, idx t]
  blk_ext [idx t]

/-- The gate's block of columns at a point. -/
theorem iblk4_apply (c : Dev nD) (t : Fin cfg0.N) (y : S2048x512.Idx) (i : S2048x11264.Idx)
    (h0 : (i 0).val = (y 0).val) (h1 : (i 1).val = t.val % 11 * 512 + (y 1).val) :
    (iblk m c 4 t : Vec F S2048x512 .bf16) y = (V m c main_v2 : Vec F S2048x11264 .bf16) i := by
  blk_simp [iblk, idx t]
  blk_ext [idx t]

/-- The value's block of columns at a point. -/
theorem iblk5_apply (c : Dev nD) (t : Fin cfg0.N) (y : S2048x512.Idx) (i : S2048x11264.Idx)
    (h0 : (i 0).val = (y 0).val) (h1 : (i 1).val = (t.val % 11 + 11) * 512 + (y 1).val) :
    (iblk m c 5 t : Vec F S2048x512 .bf16) y = (V m c main_v2 : Vec F S2048x11264 .bf16) i := by
  blk_simp [iblk, idx t]
  blk_ext [idx t]

/-- The gate's coefficients at a point. -/
theorem iblk6_apply (c : Dev nD) (t : Fin cfg0.N) (y : S3x512.Idx) (i : S3x11264.Idx)
    (h0 : (i 0).val = (y 0).val) (h1 : (i 1).val = t.val % 11 * 512 + (y 1).val) :
    (iblk m c 6 t : Vec F S3x512 .f32) y = (V m c main_v3 : Vec F S3x11264 .f32) i := by
  blk_simp [iblk, idx t]
  blk_ext [idx t]

/-- The value's coefficients at a point. -/
theorem iblk7_apply (c : Dev nD) (t : Fin cfg0.N) (y : S3x512.Idx) (i : S3x11264.Idx)
    (h0 : (i 0).val = (y 0).val) (h1 : (i 1).val = (t.val % 11 + 11) * 512 + (y 1).val) :
    (iblk m c 7 t : Vec F S3x512 .f32) y = (V m c main_v3 : Vec F S3x11264 .f32) i := by
  blk_simp [iblk, idx t]
  blk_ext [idx t]

/-- The output weight's block of rows at a point. -/
theorem iblk8_apply (c : Dev nD) (t : Fin cfg0.N) (y : S512x2048.Idx) (i : S5632x2048.Idx)
    (h0 : (i 0).val = t.val % 11 * 512 + (y 0).val) (h1 : (i 1).val = (y 1).val) :
    (iblk m c 8 t : Vec F S512x2048 .bf16) y = (V m c main_v5 : Vec F S5632x2048 .bf16) i := by
  blk_simp [iblk, idx t]
  blk_ext [idx t]

/-- The final norm's weight at a point. -/
theorem iblk9_apply (c : Dev nD) (t : Fin cfg0.N) (y : S1x2048.Idx) (i : S1x2048.Idx)
    (h1 : (i 1).val = (y 1).val) :
    (iblk m c 9 t : Vec F S1x2048 .f32) y = (V m c main_v7 : Vec F S1x2048 .f32) i := by
  blk_simp [iblk, idx t]
  blk_ext [idx t]

/-- Within a row block the rows, the halos and the norm's weight are the point before's. -/
theorem iblk0_prev (c : Dev nD) (t t' : Fin cfg0.N) (h : t'.val / 11 = t.val / 11) :
    (iblk m c 0 t : Vec F S1024x2048 .f32) = iblk m c 0 t' := by
  funext y
  have hN : t.val < 352 := lt_of_lt_of_eq t.isLt (show cfg0.N = 352 from N_0)
  have hy : (y 0).val < 1024 := (y 0).isLt
  have e : t.val / 11 * 1024 + (y 0).val < 32768 := by omega
  rw [iblk0_apply m c t y (ix2 ⟨_, e⟩ (y 1)) rfl rfl]
  exact (iblk0_apply m c t' y (ix2 ⟨_, e⟩ (y 1)) (by show t.val / 11 * 1024 + _ = _; rw [h]) rfl).symm

theorem iblk1_prev (c : Dev nD) (t t' : Fin cfg0.N) (h : t'.val / 11 = t.val / 11) :
    (iblk m c 1 t : Vec F S16x2048 .f32) = iblk m c 1 t' := by
  funext y
  have hN : t.val < 352 := lt_of_lt_of_eq t.isLt (show cfg0.N = 352 from N_0)
  have hy : (y 0).val < 16 := (y 0).isLt
  have e : (64 * (t.val / 11) - 1) * 16 + (y 0).val < 32768 := by omega
  rw [iblk1_apply m c t y (ix2 ⟨_, e⟩ (y 1)) rfl rfl]
  exact (iblk1_apply m c t' y (ix2 ⟨_, e⟩ (y 1)) (by show (64 * (t.val / 11) - 1) * 16 + _ = _; rw [h]) rfl).symm

theorem iblk2_prev (c : Dev nD) (t t' : Fin cfg0.N) (h : t'.val / 11 = t.val / 11) :
    (iblk m c 2 t : Vec F S16x2048 .f32) = iblk m c 2 t' := by
  funext y
  have hN : t.val < 352 := lt_of_lt_of_eq t.isLt (show cfg0.N = 352 from N_0)
  have hy : (y 0).val < 16 := (y 0).isLt
  have e : min (64 * (t.val / 11) + 64) 2047 * 16 + (y 0).val < 32768 := by omega
  rw [iblk2_apply m c t y (ix2 ⟨_, e⟩ (y 1)) rfl rfl]
  exact (iblk2_apply m c t' y (ix2 ⟨_, e⟩ (y 1)) (by show min (64 * (t.val / 11) + 64) 2047 * 16 + _ = _; rw [h]) rfl).symm

theorem iblk3_prev (c : Dev nD) (t t' : Fin cfg0.N) : (iblk m c 3 t : Vec F S1x2048 .f32) = iblk m c 3 t' := by
  funext y
  rw [iblk3_apply m c t y y rfl]
  exact (iblk3_apply m c t' y y rfl).symm

/-! ## The contents -/

/-- The scratch after a point: the normalised rows of the point's row block between their halos. -/
def nblk (c : Dev nD) (t : Fin cfg0.N) : Vec F S1056x2048 .bf16 :=
  nscr (grid0.coords t) (iblk m c 0 t) (iblk m c 1 t) (iblk m c 2 t) (iblk m c 3 t)

/-- The scratch's contents read the point's row coordinate alone. -/
theorem nscr_coord (i i' : grid0.Coords) (h : (i 0).val = (i' 0).val) (x : Vec F S1024x2048 .f32) (hp hn : Vec F S16x2048 .f32) (w : Vec F S1x2048 .f32) :
    nscr i x hp hn w = nscr i' x hp hn w := by
  unfold nscr halo0 halo1 hasPrev hasNext
  rw [h]

theorem nblk_prev (c : Dev nD) (t t' : Fin cfg0.N) (h : t'.val / 11 = t.val / 11) : nblk m c t = nblk m c t' := by
  unfold nblk
  rw [iblk0_prev m c t t' h, iblk1_prev m c t t' h, iblk2_prev m c t t' h, iblk3_prev m c t t']
  exact nscr_coord _ _ ((coord0 t).trans (h.symm.trans (coord0 t').symm)) _ _ _ _

/-- One point's addition to the accumulated block. -/
def stp (c : Dev nD) (t : Fin cfg0.N) (o : Vec F S1024x2048 .f32) : Vec F S1024x2048 .f32 :=
  acc (nblk m c t) (iblk m c 4 t) (iblk m c 5 t) (iblk m c 6 t) (iblk m c 7 t) (iblk m c 8 t) o

/-- The accumulated block after a point: started from the rows themselves at a row block's first point. -/
def accum (c : Dev nD) : (n : ℕ) → n < cfg0.N → Vec F S1024x2048 .f32
  | 0, h => stp m c ⟨0, h⟩ (iblk m c 0 ⟨0, h⟩)
  | n + 1, h => stp m c ⟨n + 1, h⟩ (if (n + 1) % 11 = 0 then iblk m c 0 ⟨n + 1, h⟩ else accum c n (Nat.lt_of_succ_lt h))

theorem accum_first (c : Dev nD) (t : Fin cfg0.N) (h : t.val % 11 = 0) : accum m c t.val t.isLt = stp m c t (iblk m c 0 t) := by
  obtain ⟨n, hn⟩ := t
  cases n with
  | zero => rfl
  | succ n => rw [accum, if_pos h]

theorem accum_later (c : Dev nD) (t : Fin cfg0.N) (h : ¬ t.val % 11 = 0) :
    accum m c t.val t.isLt = stp m c t (accum m c (t.val - 1) (by omega)) := by
  obtain ⟨n, hn⟩ := t
  cases n with
  | zero => exact absurd rfl h
  | succ n => rw [accum, if_neg h]; rfl

/-- The output block a point leaves: the accumulated block, at a row block's last point its final norm. -/
def out10 (c : Dev nD) (t : Fin cfg0.N) : Vec F S1024x2048 .f32 :=
  if t.val % 11 = 10 then fin (accum m c t.val t.isLt) (iblk m c 9 t) else accum m c t.val t.isLt

/-- The invariant before position `n`: the scratches at anything before the first point, then the rows' scratch at what the point before left. -/
def PhiS (c : Dev nD) : (n : ℕ) → n ≤ cfg0.N → sProp 𝕄
  | 0, _ => Pipeline.ΦA spec0 c
  | n + 1, hn => iprop(iprop(owns (c : Thread nD τ) scM0_0 fullShare (nblk m c ⟨n, hn⟩) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (nblk m c ⟨n - 1, by omega⟩) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- At any position the scratches are owned at some contents. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1, HS2⟩, Hg⟩
    isplitl [HS0 HS1 HS2]
    · isplitl [HS0]
      · iexists _; iexact HS0
      isplitl [HS1]; · iexact HS1
      iexact HS2
    iexact Hg

/-- The proof data: the inputs at their blocks, the output at the named contents, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem Phi_succ (c : Dev nD) (t : Fin cfg0.N) :
    (dats m 0 c).Φ t.succ = iprop(iprop(owns (c : Thread nD τ) scM0_0 fullShare (nblk m c t) ∗ (∃ d, owns (c : Thread nD τ) scM0_1 fullShare d) ∗ (∃ d, owns (c : Thread nD τ) scM0_2 fullShare d)) ∗ (∃ r, prngReg c r)) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The output's buffer is fresh at the first point of a row block only. -/
theorem fresh0_10 : ∀ n, n ≤ cfg0.N → cfg0.fresh 10 n = (n % 11 == 0) :=
  cfg0.fresh_tab 10 (fun n => n % 11 == 0) rfl
    (by decide +kernel : ∀ t : Fin grid0.N, ((t.val + 1) % 11 == 0) = (win0_10.flush t || (cfg0.idle 10 (grid0.coords t) && (t.val % 11 == 0))))

/-- At a later column block the output's buffer holds the accumulated block. -/
theorem before0_10 (c : Dev nD) (t : Fin cfg0.N) (h : ¬ t.val % 11 = 0) (d) :
    (dats m 0 c).before 10 t d = accum m c (t.val - 1) (by omega) := by
  have h0 : t.val ≠ 0 := by omega
  rw [(dats m 0 c).before_out_traj 10 rfl (fun _ _ => rfl) (fun t' _ hi _ => Bool.noConfusion (show false = true from hi)) t.val t rfl d,
    fresh0_10 _ (Nat.le_of_lt t.isLt), if_neg (by rw [beq_iff_eq]; exact h), after0_10]
  unfold out10
  rw [if_neg (by show ¬ (t.val - 1) % 11 = 10; omega)]

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (ms0_10 t) fullShare (out10 m c t) := by
  unfold Dat.leavesExact; rw [show cfg0.idle 10 (grid0.coords t) = false from rfl, after0_10]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, leaves0_10]
  rw [Phi_castSucc, Phi_succ, show (dats m 0 c).owesAt () t.succ = (dats m 0 c).owesAt () t.castSucc from rfl]
  have hN : t.val < 352 := lt_of_lt_of_eq t.isLt (show cfg0.N = 352 from N_0)
  by_cases h0 : t.val % 11 = 0
  · have h1 : ¬ t.val % 11 = 10 := by omega
    have eo : out10 m c t = acc (nblk m c t) (iblk m c 4 t) (iblk m c 5 t) (iblk m c 6 t) (iblk m c 7 t) (iblk m c 8 t) (iblk m c 0 t) := by
      unfold out10; rw [if_neg h1, accum_first m c t h0]; rfl
    rw [eo]
    refine BIBase.Entails.trans (sep_mono_l ((PhiS_any m c _ _).trans (Entails.of_eq (PhiA0_eq c)))) ?_
    show iprop(iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) ∗ _) ⊢ _
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before0_10 m c t h0]
    rw [PhiS_pos m c _ _ (by omega), ← nblk_prev m c t ⟨t.val - 1, by omega⟩ (by show (t.val - 1) / 11 = t.val / 11; omega)]
    by_cases h1 : t.val % 11 = 10
    · have eo : out10 m c t = fin (acc (nblk m c t) (iblk m c 4 t) (iblk m c 5 t) (iblk m c 6 t) (iblk m c 7 t) (iblk m c 8 t) (accum m c (t.val - 1) (by omega))) (iblk m c 9 t) := by
        unfold out10; rw [if_pos h1, accum_later m c t h0]; rfl
      rw [eo]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (accum m c (t.val - 1) (by omega)) (nblk m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have eo : out10 m c t = acc (nblk m c t) (iblk m c 4 t) (iblk m c 5 t) (iblk m c 6 t) (iblk m c 7 t) (iblk m c 8 t) (accum m c (t.val - 1) (by omega)) := by
        unfold out10; rw [if_neg h1, accum_later m c t h0]; rfl
      rw [eo]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (accum m c (t.val - 1) (by omega)) (nblk m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c :=
  PhiS_any m c cfg0.N (Nat.le_refl _)

/-! ## The run -/

set_option backward.isDefEq.respectTransparency.types false in
/-- The launch: every window's array ends at its named contents, every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ConvFfnIdeal.Hand

end
-- ==== Proof.FfnRef.lean ====
/-
  Hand-written. The reference of `ConvFfn` at an index: the row norm, the product with the weight, the convolution of three rows,
  the gated product, and the final norm, each as a function of the arguments.
-/
module

public import proofs.«01_k».proof.Proof.Gen.ConvFfnRefIdeal.Read
public import Idealize.ShloMosaic.Lib.Pipeline.ValueKit

@[expose] public section

set_option maxRecDepth 16384

noncomputable section

namespace Cert.Proof.FfnRef

open Idealize.ShloMosaic Idealize.ShloMosaic.TcCoe
open Cert.ConvFfnRefIdeal Cert.ConvFfnRefIdeal.Gen Cert.ConvFfnRefIdeal.Read

/-- A row's norm at a column: the row over its root mean square, times the weight. -/
def rms (x w : Fin 2048 → EReal) (k : Fin 2048) : EReal :=
  x k * Ideal.rsqrt (Ideal.div (∑ a, x a * x a) (Ideal.ofBits FTy.f32 1157627904#32) + Ideal.ofBits FTy.f32 897988541#32) * w k

variable (X : FVec Ideal S32768x2048 .f32) (nw : FVec Ideal S1x2048 .f32) (W : FVec Ideal S1x2048x11264 .f32)
  (C : FVec Ideal S1x3x11264 .f32) (O : FVec Ideal S1x5632x2048 .f32) (fw : FVec Ideal S2048 .f32)

/-- A normalised row's entry. -/
def nv (r : Fin 32768) (k : Fin 2048) : EReal := rms (fun a => X (ix2 r a)) (fun a => nw (ix2 0 a)) k

/-- Its product with a column of the weight. -/
def uv (r : Fin 32768) (f : Fin 11264) : EReal := ∑ k : Fin 2048, nv X nw r k * W (ix3 0 k f)

/-- The product's row before, zero at a sequence's start. -/
def uprev (r : Fin 32768) (f : Fin 11264) : EReal :=
  if h : r.val % 2048 = 0 then 0 else uv X nw W ⟨r.val - 1, by omega⟩ f

/-- The product's row behind, zero at a sequence's end. -/
def unext (r : Fin 32768) (f : Fin 11264) : EReal :=
  if h : r.val % 2048 = 2047 then 0 else uv X nw W ⟨r.val + 1, by omega⟩ f

/-- The convolution of three rows. -/
def cv (r : Fin 32768) (f : Fin 11264) : EReal :=
  uprev X nw W r f * C (ix3 0 0 f) + uv X nw W r f * C (ix3 0 1 f) + unext X nw W r f * C (ix3 0 2 f)

/-- The gated entry. -/
def act (r : Fin 32768) (f : Fin 5632) : EReal :=
  cv X nw W C r ⟨f.val, by omega⟩ * Ideal.logistic (cv X nw W C r ⟨f.val, by omega⟩) * cv X nw W C r ⟨5632 + f.val, by omega⟩

/-- The residual row with its addition. -/
def hv (r : Fin 32768) (d : Fin 2048) : EReal := X (ix2 r d) + ∑ f : Fin 5632, act X nw W C r f * O (ix3 0 f d)

/-- The result's entry. -/
def ov (r : Fin 32768) (d : Fin 2048) : EReal := rms (hv X nw W C O r) (fun a => fw (ix1 a)) d

/-- A row of a sequence in the stack of all rows. -/
def row (b : Fin 16) (s : Fin 2048) : Fin 32768 := ⟨b.val * 2048 + s.val, by omega⟩

theorem v0_apply (i : S16x2048x2048.Idx) : val_main_v0 (F := Ideal) X i = X (ix2 (row (i 0) (i 1)) (i 2)) := by
  unfold val_main_v0
  pointwise
  blk_ext
  rfl

theorem v14_apply (i : S16x2048x2048.Idx) : val_main_v14 (F := Ideal) X nw i = nv X nw (row (i 0) (i 1)) (i 2) := by
  unfold nv rms
  pointwise [val_main_v14, val_main_v13, val_main_v12, val_main_v11, val_main_v10, val_main_v9, val_main_v8, val_main_v7, val_main_v6, val_main_v5, val_main_v4, val_main_v3, val_main_v2, val_main_v1, v0_apply, val_main_cst, val_main_cst_0, val_main_cst_1]

theorem v16_apply (i : S16x2048x11264.Idx) : val_main_v16 (F := Ideal) X nw W i = uv X nw W (row (i 0) (i 1)) (i 2) := by
  rw [val_main_v16_apply]
  refine Finset.sum_congr rfl fun k _ => congrArg₂ (· * ·) ?_ ?_
  · rw [v14_apply]; rfl
  · unfold val_main_v15
    pointwise
    blk_ext

theorem v18_apply (i : S16x2050x11264.Idx) : val_main_v18 (F := Ideal) X nw W i
    = if h : 1 ≤ (i 1).val ∧ (i 1).val < 2049 then uv X nw W (row (i 0) ⟨(i 1).val - 1, by omega⟩) (i 2) else 0 := by
  unfold val_main_v18
  pointwise [v16_apply, val_main_call0_v0, val_main_c]
  rw [show (FloatOps.sitofp (F := Ideal) FTy.f32 0#32 : EReal) = 0 by
    show (((((0#32 : BitVec 32).toInt : ℤ) : ℝ)) : EReal) = 0
    simp]
  by_cases h : 1 ≤ (i 1).val ∧ (i 1).val < 2049
  · rw [dif_pos h, dif_pos ⟨h.1, by omega⟩]
  · rw [dif_neg h, dif_neg (fun hc => h ⟨hc.1, by omega⟩)]

theorem v38_apply (i : S16x2048x11264.Idx) : val_main_v38 (F := Ideal) X nw W C i = cv X nw W C (row (i 0) (i 1)) (i 2) := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v17, v18_apply]
  have h0 : (i 0).val < 16 := (i 0).isLt
  have h1 : (i 1).val < 2048 := (i 1).isLt
  have hr : (row (i 0) (i 1)).val = (i 0).val * 2048 + (i 1).val := rfl
  unfold cv
  refine congrArg₂ (· + ·) (congrArg₂ (· + ·) (congrArg (· * _) ?_) (congrArg (· * _) ?_)) (congrArg (· * _) ?_)
  · unfold uprev
    by_cases h : (i 1).val = 0
    · rw [dif_neg (by omega), dif_pos (by rw [hr]; omega)]
    · rw [dif_pos (by omega), dif_neg (by rw [hr]; omega)]
      exact congrArg (uv X nw W · (i 2)) (Fin.ext (by show (i 0).val * 2048 + ((i 1).val - 1) = (i 0).val * 2048 + (i 1).val - 1; omega))
  · rw [dif_pos (by omega)]
  · unfold unext
    by_cases h : (i 1).val = 2047
    · rw [dif_neg (by omega), dif_pos (by rw [hr]; omega)]
    · rw [dif_pos (by omega), dif_neg (by rw [hr]; omega)]
      exact congrArg (uv X nw W · (i 2)) (Fin.ext (by show (i 0).val * 2048 + (2 + (i 1).val - 1) = (i 0).val * 2048 + (i 1).val + 1; omega))

theorem v42_apply (i : S16x2048x5632.Idx) : val_main_v42 (F := Ideal) X nw W C i = act X nw W C (row (i 0) (i 1)) (i 2) := by
  pointwise [val_main_v42, val_main_v41, val_main_v40, val_main_v39, val_main_call1_v5, val_main_call1_v4, val_main_call1_v3, val_main_call1_v2, val_main_call1_v1, val_main_call1_v0, val_main_call1_cst, val_main_call1_cst_0, v38_apply]
  rfl

theorem v45_apply (i : S16x2048x2048.Idx) : val_main_v45 (F := Ideal) X nw W C O i = hv X nw W C O (row (i 0) (i 1)) (i 2) := by
  rw [val_main_v45_apply, val_main_v44_apply, v0_apply]
  refine congrArg (_ + ·) (Finset.sum_congr rfl fun k _ => congrArg₂ (· * ·) ?_ ?_)
  · rw [v42_apply]; rfl
  · unfold val_main_v43
    pointwise
    blk_ext

theorem v58_apply (i : S16x2048x2048.Idx) : val_main_v58 (F := Ideal) X nw W C O fw i = ov X nw W C O fw (row (i 0) (i 1)) (i 2) := by
  unfold ov rms
  pointwise [val_main_v58, val_main_v57, val_main_v56, val_main_v55, val_main_v54, val_main_v53, val_main_v52, val_main_v51, val_main_v50, val_main_v49, val_main_v48, val_main_v47, val_main_v46, val_main_cst_2, val_main_cst_3, val_main_cst_4, v45_apply]

theorem v59_apply (i : S32768x2048.Idx) : val_main_v59 (F := Ideal) X nw W C O fw i = ov X nw W C O fw (i 0) (i 1) := by
  unfold val_main_v59
  pointwise [v58_apply]
  refine congrArg (ov X nw W C O fw · (i 1)) (Fin.ext ?_)
  show (i 0).val / 2048 * 2048 + (i 0).val % 2048 = (i 0).val
  omega

end Cert.Proof.FfnRef

end
-- ==== Proof.FfnValue.lean ====
/-
  Hand-written. `ConvFfnIdeal`'s result is the reference's term: the scratch holds the normalised rows with zeros outside a sequence,
  each point adds its 512 gated columns' products, and the last point of a row block takes the final norm.
-/
module

public import proofs.«01_k».proof.Proof.FfnFrame
public import proofs.«01_k».proof.Proof.FfnRef
public import Idealize.ShloMosaic.Lib.Pipeline.ValueKit

@[expose] public section

set_option maxRecDepth 16384

noncomputable section

namespace Cert.ConvFfnIdeal.Hand

open Idealize.ShloMosaic Idealize.ShloMosaic.TcCoe Idealize.SL.Sem
open Idealize.ShloMosaic.Pipeline (Dat)
open Cert.ConvFfnIdeal Cert.ConvFfnIdeal.Gen
open Cert.Proof.FfnRef (rms nv uv uprev unext cv act hv ov)

variable (m : (ℓ : Loc nD τ sig) → Buf (Elt Ideal) ℓ) (ρ : Dev nD → PrngReg)

/-- The arguments on a device. -/
abbrev aX (c : Dev nD) : FVec Ideal S32768x2048 .f32 := m ((c : Thread nD τ).loc main_arg0)
abbrev aN (c : Dev nD) : FVec Ideal S1x2048 .f32 := m ((c : Thread nD τ).loc main_arg1)
abbrev aW (c : Dev nD) : FVec Ideal S1x2048x11264 .f32 := m ((c : Thread nD τ).loc main_arg2)
abbrev aC (c : Dev nD) : FVec Ideal S1x3x11264 .f32 := m ((c : Thread nD τ).loc main_arg3)
abbrev aO (c : Dev nD) : FVec Ideal S1x5632x2048 .f32 := m ((c : Thread nD τ).loc main_arg4)
abbrev aF (c : Dev nD) : FVec Ideal S2048 .f32 := m ((c : Thread nD τ).loc main_arg5)

/-! ## The arrays as the region finds them -/

theorem V_n (c : Dev nD) (i : S1x2048.Idx) : (V m c main_v6 : Vec Ideal S1x2048 .f32) i = aN m c (ix2 0 (i 1)) := by
  entry_read
  pointwise
  blk_ext

theorem V_w (c : Dev nD) (i : S2048x11264.Idx) : (V m c main_v2 : Vec Ideal S2048x11264 .bf16) i = aW m c (ix3 0 (i 0) (i 1)) := by
  entry_read
  pointwise
  blk_ext

theorem V_c (c : Dev nD) (i : S3x11264.Idx) : (V m c main_v3 : Vec Ideal S3x11264 .f32) i = aC m c (ix3 0 (i 0) (i 1)) := by
  entry_read
  pointwise
  blk_ext

theorem V_o (c : Dev nD) (i : S5632x2048.Idx) : (V m c main_v5 : Vec Ideal S5632x2048 .bf16) i = aO m c (ix3 0 (i 0) (i 1)) := by
  entry_read
  pointwise
  blk_ext

theorem V_f (c : Dev nD) (i : S1x2048.Idx) : (V m c main_v7 : Vec Ideal S1x2048 .f32) i = aF m c (ix1 (i 1)) := by
  entry_read
  pointwise
  blk_ext

/-! ## The scratch -/

/-- A block's normalised row is the row's norm, -/
theorem nrm_apply (x : FVec Ideal S1024x2048 .f32) (w : FVec Ideal S1x2048 .f32) (y : S1024x2048.Idx) :
    nrm (F := Ideal) x w y = rms (fun a => x (ix2 (y 0) a)) (fun a => w (ix2 0 a)) (y 1) := by
  unfold nrm rms
  pointwise [k0_pay3]
  have hr : ∀ a, rows (F := Ideal) ((y 0).val / 256) (by have : (y 0).val < 1024 := (y 0).isLt; omega) x (ix2 ⟨(y 0).val % 256, Nat.mod_lt _ (by omega)⟩ a)
      = x (ix2 (y 0) a) := fun a => by
    unfold rows
    refine congrArg x ?_
    blk_ext
  have hy : rows (F := Ideal) ((y 0).val / 256) (by have : (y 0).val < 1024 := (y 0).isLt; omega) x (ix2 ⟨(y 0).val % 256, Nat.mod_lt _ (by omega)⟩ (y 1))
      = x y := (hr (y 1)).trans (congrArg x (by blk_ext))
  simp only [hr, hy]

/-- and so is its final norm. -/
theorem fin_apply (x : FVec Ideal S1024x2048 .f32) (w : FVec Ideal S1x2048 .f32) (y : S1024x2048.Idx) :
    fin (F := Ideal) x w y = rms (fun a => x (ix2 (y 0) a)) (fun a => w (ix2 0 a)) (y 1) := by
  unfold fin rms
  pointwise [k0_pay2]
  have hr : ∀ a, rows (F := Ideal) ((y 0).val / 256) (by have : (y 0).val < 1024 := (y 0).isLt; omega) x (ix2 ⟨(y 0).val % 256, Nat.mod_lt _ (by omega)⟩ a)
      = x (ix2 (y 0) a) := fun a => by
    unfold rows
    refine congrArg x ?_
    blk_ext
  have hy : rows (F := Ideal) ((y 0).val / 256) (by have : (y 0).val < 1024 := (y 0).isLt; omega) x (ix2 ⟨(y 0).val % 256, Nat.mod_lt _ (by omega)⟩ (y 1))
      = x y := (hr (y 1)).trans (congrArg x (by blk_ext))
  simp only [hr, hy]

/-- The halo rows before a block: normalised, or zero. -/
theorem halo0_apply (i : grid0.Coords) (x : FVec Ideal S16x2048 .f32) (w : FVec Ideal S1x2048 .f32) (y : S16x2048.Idx) :
    halo0 (F := Ideal) i x w y = if hasPrev i = 1#1 then rms (fun a => x (ix2 (y 0) a)) (fun a => w (ix2 0 a)) (y 1) else 0 := by
  unfold halo0 rms
  pointwise [k0_pay6, k0_pay5, k0_pay4]
  rfl

/-- The halo rows behind it. -/
theorem halo1_apply (i : grid0.Coords) (x : FVec Ideal S16x2048 .f32) (w : FVec Ideal S1x2048 .f32) (y : S16x2048.Idx) :
    halo1 (F := Ideal) i x w y = if hasNext i = 1#1 then rms (fun a => x (ix2 (y 0) a)) (fun a => w (ix2 0 a)) (y 1) else 0 := by
  unfold halo1 rms
  pointwise [k0_pay7]
  rfl

/-- Which row blocks start a sequence and which end one. -/
theorem halos : ∀ t : Fin cfg0.N, (hasPrev (grid0.coords t) = 1#1 ↔ t.val / 11 % 2 = 1) ∧ (hasNext (grid0.coords t) = 1#1 ↔ t.val / 11 % 2 = 0) :=
  (by decide +kernel : ∀ t : Fin grid0.N, _)

/-- The scratch's inner rows are the block's normalised rows. -/
theorem nblk_mid (c : Dev nD) (t : Fin cfg0.N) (y : Fin 1056) (k : Fin 2048) (r : Fin 32768) (hlo : 16 ≤ y.val) (hhi : y.val < 1040)
    (hr : r.val + 16 = t.val / 11 * 1024 + y.val) : nblk m c t (ix2 y k) = nv (aX m c) (aN m c) r k := by
  unfold nblk nscr
  rw [dif_neg (show ¬ ((ix2 y k : S1056x2048.Idx) 0).val < 16 from by show ¬ y.val < 16; omega), dif_pos (show ((ix2 y k : S1056x2048.Idx) 0).val < 1040 from hhi), nrm_apply]
  unfold nv
  refine congrArg₂ (rms · · k) (funext fun a => ?_) (funext fun a => ?_)
  · rw [iblk0_apply m c t _ (ix2 r a) (by show r.val = t.val / 11 * 1024 + (y.val - 16); omega) rfl, V_main_arg0]
  · rw [iblk3_apply m c t _ (ix2 0 a) rfl, V_n]; rfl

/-- The row before them: the row before the block, or zero where the block starts a sequence. -/
theorem nblk_lo (c : Dev nD) (t : Fin cfg0.N) (y : Fin 1056) (k : Fin 2048) (hy : y.val = 15) :
    nblk m c t (ix2 y k) = if h : t.val / 11 % 2 = 0 then 0
      else nv (aX m c) (aN m c) ⟨t.val / 11 * 1024 - 1, by have ht : t.val < 352 := lt_of_lt_of_eq t.isLt (show cfg0.N = 352 from N_0); omega⟩ k := by
  unfold nblk nscr
  rw [dif_pos (show ((ix2 y k : S1056x2048.Idx) 0).val < 16 from by show y.val < 16; omega), halo0_apply]
  by_cases h : t.val / 11 % 2 = 0
  · rw [dif_pos h, if_neg (fun hc => by have := (halos t).1.mp hc; omega)]
  · rw [dif_neg h, if_pos ((halos t).1.mpr (by omega))]
    unfold nv
    refine congrArg₂ (rms · · k) (funext fun a => ?_) (funext fun a => ?_)
    · rw [iblk1_apply m c t _ (ix2 ⟨t.val / 11 * 1024 - 1, by have ht : t.val < 352 := lt_of_lt_of_eq t.isLt (show cfg0.N = 352 from N_0); omega⟩ a)
        (by show t.val / 11 * 1024 - 1 = (64 * (t.val / 11) - 1) * 16 + y.val; omega) rfl, V_main_arg0]
    · rw [iblk3_apply m c t _ (ix2 0 a) rfl, V_n]; rfl

/-- The row behind them: the row behind the block, or zero where the block ends a sequence. -/
theorem nblk_hi (c : Dev nD) (t : Fin cfg0.N) (y : Fin 1056) (k : Fin 2048) (hy : y.val = 1040) :
    nblk m c t (ix2 y k) = if h : t.val / 11 % 2 = 1 then 0
      else nv (aX m c) (aN m c) ⟨t.val / 11 * 1024 + 1024, by have ht : t.val < 352 := lt_of_lt_of_eq t.isLt (show cfg0.N = 352 from N_0); omega⟩ k := by
  have ht : t.val < 352 := lt_of_lt_of_eq t.isLt (show cfg0.N = 352 from N_0)
  unfold nblk nscr
  rw [dif_neg (show ¬ ((ix2 y k : S1056x2048.Idx) 0).val < 16 from by show ¬ y.val < 16; omega), dif_neg (show ¬ ((ix2 y k : S1056x2048.Idx) 0).val < 1040 from by show ¬ y.val < 1040; omega), halo1_apply]
  by_cases h : t.val / 11 % 2 = 1
  · rw [dif_pos h, if_neg (fun hc => by have := (halos t).2.mp hc; omega)]
  · rw [dif_neg h, if_pos ((halos t).2.mpr (by omega))]
    unfold nv
    refine congrArg₂ (rms · · k) (funext fun a => ?_) (funext fun a => ?_)
    · rw [iblk2_apply m c t _ (ix2 ⟨t.val / 11 * 1024 + 1024, by omega⟩ a)
        (by show t.val / 11 * 1024 + 1024 = min (64 * (t.val / 11) + 64) 2047 * 16 + (y.val - 1040); omega) rfl, V_main_arg0]
    · rw [iblk3_apply m c t _ (ix2 0 a) rfl, V_n]; rfl

/-! ## One point's addition -/

/-- A scratch row's product with a column of a weight block. -/
abbrev prow (n : FVec Ideal S1056x2048 .bf16) (w : FVec Ideal S2048x512 .bf16) (y : Fin 1056) (f : Fin 512) : EReal :=
  ∑ k : Fin 2048, n (ix2 y k) * w (ix2 k f)

/-- The three rows' products, weighted. -/
abbrev pconv (n : FVec Ideal S1056x2048 .bf16) (w : FVec Ideal S2048x512 .bf16) (cf : FVec Ideal S3x512 .f32) (p : Fin 1024) (f : Fin 512) : EReal :=
  prow n w ⟨15 + p.val, by omega⟩ f * cf (ix2 0 f) + prow n w ⟨16 + p.val, by omega⟩ f * cf (ix2 1 f) + prow n w ⟨17 + p.val, by omega⟩ f * cf (ix2 2 f)

/-- A block's addition at an entry. -/
theorem acc_apply (n : FVec Ideal S1056x2048 .bf16) (wg wv : FVec Ideal S2048x512 .bf16) (cg cv : FVec Ideal S3x512 .f32) (wo : FVec Ideal S512x2048 .bf16)
    (o : FVec Ideal S1024x2048 .f32) (y : S1024x2048.Idx) : acc (F := Ideal) n wg wv cg cv wo o y
      = o y + ∑ f : Fin 512, pconv n wg cg (y 0) f * Ideal.logistic (pconv n wg cg (y 0) f) * pconv n wv cv (y 0) f * wo (ix2 f (y 1)) := by
  unfold acc
  pointwise [k0_pay1, k0_pay10, sub, crow, k0_pay8, k0_pay9]

/-- A point's convolved column is the reference's, whichever half of the weight it lies in. -/
theorem pconv_eq (c : Dev nD) (t : Fin cfg0.N) (w : FVec Ideal S2048x512 .bf16) (cf : FVec Ideal S3x512 .f32) (p : Fin 1024) (f : Fin 512)
    (r : Fin 32768) (hr : r.val = t.val / 11 * 1024 + p.val) (g : Fin 11264)
    (hw : ∀ k, w (ix2 k f) = aW m c (ix3 0 k g)) (hc : ∀ a, cf (ix2 a f) = aC m c (ix3 0 a g)) :
    pconv (nblk m c t) w cf p f = cv (aX m c) (aN m c) (aW m c) (aC m c) r g := by
  have ht : t.val < 352 := lt_of_lt_of_eq t.isLt (show cfg0.N = 352 from N_0)
  have hp : p.val < 1024 := p.isLt
  unfold pconv cv
  rw [hc, hc, hc]
  refine congrArg₂ (· + ·) (congrArg₂ (· + ·) (congrArg (· * _) ?_) (congrArg (· * _) ?_)) (congrArg (· * _) ?_)
  · unfold uprev prow
    by_cases h0 : p.val = 0
    · by_cases h : t.val / 11 % 2 = 0
      · rw [dif_pos (by omega)]
        refine Finset.sum_eq_zero fun k _ => ?_
        rw [nblk_lo m c t _ k (by show 15 + p.val = 15; omega), dif_pos h, zero_mul]
      · rw [dif_neg (by omega)]
        refine Finset.sum_congr rfl fun k _ => congrArg₂ (· * ·) ?_ (hw k)
        rw [nblk_lo m c t _ k (by show 15 + p.val = 15; omega), dif_neg h]
        exact congrArg (nv _ _ · k) (Fin.ext (by show t.val / 11 * 1024 - 1 = r.val - 1; omega))
    · rw [dif_neg (by omega)]
      refine Finset.sum_congr rfl fun k _ => congrArg₂ (· * ·) ?_ (hw k)
      exact nblk_mid m c t _ k _ (by show 16 ≤ 15 + p.val; omega) (by show 15 + p.val < 1040; omega) (by show r.val - 1 + 16 = _ + (15 + p.val); omega)
  · exact Finset.sum_congr rfl fun k _ => congrArg₂ (· * ·)
      (nblk_mid m c t _ k _ (by show 16 ≤ 16 + p.val; omega) (by show 16 + p.val < 1040; omega) (by show r.val + 16 = _ + (16 + p.val); omega)) (hw k)
  · unfold unext prow
    by_cases h0 : p.val = 1023
    · by_cases h : t.val / 11 % 2 = 1
      · rw [dif_pos (by omega)]
        refine Finset.sum_eq_zero fun k _ => ?_
        rw [nblk_hi m c t _ k (by show 17 + p.val = 1040; omega), dif_pos h, zero_mul]
      · rw [dif_neg (by omega)]
        refine Finset.sum_congr rfl fun k _ => congrArg₂ (· * ·) ?_ (hw k)
        rw [nblk_hi m c t _ k (by show 17 + p.val = 1040; omega), dif_neg h]
        exact congrArg (nv _ _ · k) (Fin.ext (by show t.val / 11 * 1024 + 1024 = r.val + 1; omega))
    · rw [dif_neg (by omega)]
      refine Finset.sum_congr rfl fun k _ => congrArg₂ (· * ·) ?_ (hw k)
      exact nblk_mid m c t _ k _ (by show 16 ≤ 17 + p.val; omega) (by show 17 + p.val < 1040; omega) (by show r.val + 1 + 16 = _ + (17 + p.val); omega)

/-- A gated column's addition to an entry, zero past the last column. -/
def term (c : Dev nD) (r : Fin 32768) (d : Fin 2048) (f : ℕ) : EReal :=
  if h : f < 5632 then act (aX m c) (aN m c) (aW m c) (aC m c) r ⟨f, h⟩ * aO m c (ix3 0 ⟨f, h⟩ d) else 0

/-- A point adds its 512 columns' terms. -/
theorem stp_apply (c : Dev nD) (t : Fin cfg0.N) (o : FVec Ideal S1024x2048 .f32) (y : S1024x2048.Idx) (r : Fin 32768)
    (hr : r.val = t.val / 11 * 1024 + (y 0).val) :
    stp m c t o y = o y + ∑ f ∈ Finset.range 512, term m c r (y 1) (512 * (t.val % 11) + f) := by
  unfold stp
  rw [acc_apply, Finset.sum_range]
  refine congrArg (_ + ·) (Finset.sum_congr rfl fun f _ => ?_)
  have hf : f.val < 512 := f.isLt
  have hlt : 512 * (t.val % 11) + f.val < 5632 := by omega
  unfold term act
  rw [dif_pos hlt]
  have eg : pconv (nblk m c t) (iblk m c 4 t) (iblk m c 6 t) (y 0) f = cv (aX m c) (aN m c) (aW m c) (aC m c) r ⟨512 * (t.val % 11) + f.val, by omega⟩ :=
    pconv_eq m c t _ _ _ f r hr _
      (fun k => by rw [iblk4_apply m c t _ (ix2 k ⟨512 * (t.val % 11) + f.val, by omega⟩) rfl (by show 512 * (t.val % 11) + f.val = t.val % 11 * 512 + f.val; omega), V_w]; rfl)
      (fun k => by rw [iblk6_apply m c t _ (ix2 k ⟨512 * (t.val % 11) + f.val, by omega⟩) rfl (by show 512 * (t.val % 11) + f.val = t.val % 11 * 512 + f.val; omega), V_c]; rfl)
  have ev : pconv (nblk m c t) (iblk m c 5 t) (iblk m c 7 t) (y 0) f = cv (aX m c) (aN m c) (aW m c) (aC m c) r ⟨5632 + (512 * (t.val % 11) + f.val), by omega⟩ :=
    pconv_eq m c t _ _ _ f r hr _
      (fun k => by rw [iblk5_apply m c t _ (ix2 k ⟨5632 + (512 * (t.val % 11) + f.val), by omega⟩) rfl (by show 5632 + (512 * (t.val % 11) + f.val) = (t.val % 11 + 11) * 512 + f.val; omega), V_w]; rfl)
      (fun k => by rw [iblk7_apply m c t _ (ix2 k ⟨5632 + (512 * (t.val % 11) + f.val), by omega⟩) rfl (by show 5632 + (512 * (t.val % 11) + f.val) = (t.val % 11 + 11) * 512 + f.val; omega), V_c]; rfl)
  have eo : (iblk m c 8 t : FVec Ideal S512x2048 .bf16) (ix2 f (y 1)) = aO m c (ix3 0 ⟨512 * (t.val % 11) + f.val, hlt⟩ (y 1)) := by
    rw [iblk8_apply m c t _ (ix2 ⟨512 * (t.val % 11) + f.val, hlt⟩ (y 1)) (by show 512 * (t.val % 11) + f.val = t.val % 11 * 512 + f.val; omega) rfl, V_o]; rfl
  rw [eg, ev, eo]

/-! ## The accumulated block -/

/-- Up to a point of a row block the terms of its columns and of the columns before are added to the row. -/
theorem accum_apply (c : Dev nD) (y : S1024x2048.Idx) (r : Fin 32768) : ∀ (j n : ℕ) (hn : n < cfg0.N), n % 11 = j →
    r.val = n / 11 * 1024 + (y 0).val →
    accum m c n hn y = HAdd.hAdd (α := EReal) (β := EReal) (γ := EReal) (aX m c (ix2 r (y 1))) (∑ f ∈ Finset.range (512 * (j + 1)), term m c r (y 1) f)
  | 0, n, hn, hj, hr => by
    rw [accum_first m c ⟨n, hn⟩ hj, stp_apply m c ⟨n, hn⟩ _ y r hr, iblk0_apply m c ⟨n, hn⟩ y (ix2 r (y 1)) hr rfl, V_main_arg0]
    refine congrArg (HAdd.hAdd (α := EReal) (β := EReal) (γ := EReal) _) (Finset.sum_congr rfl fun f _ => congrArg (term m c r (y 1)) ?_)
    show 512 * (n % 11) + f = f
    omega
  | j + 1, n, hn, hj, hr => by
    rw [accum_later m c ⟨n, hn⟩ (by show ¬ n % 11 = 0; omega), stp_apply m c ⟨n, hn⟩ _ y r hr,
      accum_apply c y r j (n - 1) (by omega) (by omega) (by rw [hr]; congr 2; omega), add_assoc,
      show 512 * (j + 1 + 1) = 512 * (j + 1) + 512 from rfl, Finset.sum_range_add]
    refine congrArg (_ + ·) (congrArg (_ + ·) (Finset.sum_congr rfl fun f _ => congrArg (term m c r (y 1)) ?_))
    show 512 * (n % 11) + f = 512 * (j + 1) + f
    rw [hj]

/-- At a row block's last point the block is the residual rows with their addition. -/
theorem accum_last (c : Dev nD) (t : Fin cfg0.N) (h : t.val % 11 = 10) (y : S1024x2048.Idx) (r : Fin 32768)
    (hr : r.val = t.val / 11 * 1024 + (y 0).val) :
    accum m c t.val t.isLt y = hv (aX m c) (aN m c) (aW m c) (aC m c) (aO m c) r (y 1) := by
  rw [accum_apply m c y r 10 t.val t.isLt h hr]
  unfold hv
  refine congrArg (_ + ·) ?_
  rw [Finset.sum_range]
  refine Finset.sum_congr rfl fun f _ => ?_
  unfold term
  rw [dif_pos f.isLt]

/-- A flushed block is the reference's. -/
theorem point10 (c : Dev nD) (t : Fin cfg0.N) (h : t.val % 11 = 10) (y : S1024x2048.Idx) (i : S32768x2048.Idx)
    (h0 : (i 0).val = t.val / 11 * 1024 + (y 0).val) (h1 : (i 1).val = (y 1).val) :
    out10 m c t y = ov (aX m c) (aN m c) (aW m c) (aC m c) (aO m c) (aF m c) (i 0) (i 1) := by
  unfold out10 ov
  rw [if_pos h, fin_apply]
  have e1 : y 1 = i 1 := Fin.ext h1.symm
  rw [e1]
  refine congrArg₂ (rms · · (i 1)) (funext fun a => ?_) (funext fun a => ?_)
  · exact accum_last m c t h (ix2 (y 0) a) (i 0) h0
  · rw [iblk9_apply m c t _ (ix2 0 a) rfl, V_f]; rfl

/-- The array index the result's block index `y` sits at. -/
theorem emb10 (t : Fin cfg0.N) (y : S1024x2048.Idx) :
    ((((cfg0.win 10).blk t).view.emb y) 0 : ℕ) = t.val / 11 * 1024 + (y 0).val
    ∧ ((((cfg0.win 10).blk t).view.emb y) 1 : ℕ) = (y 1).val := by
  constructor <;> blk_simp [idx t]

/-- The blocks are flushed at the last points of the row blocks. -/
theorem flush10 : ∀ t : Fin cfg0.N, win0_10.flush t = true → t.val % 11 = 10 :=
  (by decide +kernel : ∀ t : Fin grid0.N, _)

/-- The result array after the run is the reference's term. -/
theorem final10 (c : Dev nD) : (dats m 0 c).arrAt 10 cfg0.N
    = Cert.ConvFfnRefIdeal.Read.val_main_v59 (F := Ideal) (aX m c) (aN m c) (aW m c) (aC m c) (aO m c) (aF m c) := by
  refine (dats m 0 c).arrAt_eq_of_covers 10 _ (by decide +kernel) fun t ht y => ?_
  blk_simp
  rw [after0_10, Cert.Proof.FfnRef.v59_apply]
  exact point10 m c t (flush10 t ht) y _ (emb10 t y).1 (emb10 t y).2

/-- The run's result is the reference's term, and the arguments are kept. -/
theorem run : θ_run defs (onTc (τ := τ) (main (F := Ideal))) ⟨m, fun _ => 0, ρ⟩ (fun r => ∀ c : Dev nD,
    r.2.mem ((c : Thread nD τ).loc main_v8)
        = Cert.ConvFfnRefIdeal.Read.val_main_v59 (F := Ideal) (aX m c) (aN m c) (aW m c) (aC m c) (aO m c) (aF m c)
    ∧ (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5))) :=
  (θ_run defs _ _).mono (fun r h c => ⟨((h.1.1 c).1 10).trans (final10 m c), h.2.1 c⟩) (θ_run_and (run_main m ρ) (frame m ρ))

end Cert.ConvFfnIdeal.Hand

end
-- ==== Proof.FfnClaims.lean ====
/-
  Hand-written. The claims of the channel mixer: the frames of the kernel and of its reference, and that the kernel's result is the
  reference's.
-/
module

public import proofs.«01_k».proof.Defs
public import proofs.«01_k».proof.Proof.Gen.ConvFfn
public import proofs.«01_k».proof.Proof.FfnValue
public import Idealize.ShloMosaic.Lib.Quiescent

@[expose] public section

set_option maxRecDepth 16384

noncomputable section

namespace Cert.Proof

open Idealize.ShloMosaic Idealize.ShloMosaic.TcCoe Idealize.SL.Sem

/-- The channel mixer's program and its idealization have the same bodies, -/
theorem ffn_defs₀ : Cert.ConvFfn.defs₀ (F := Bits) = Cert.ConvFfnIdeal.defs₀ (F := Bits) := by
  refine congrArg Defs.onTc ?_
  funext l x
  rcases l with ⟨l, hl⟩
  cases l with
  | zero => rcases x with ⟨t, s⟩; rfl
  | succ n => exact absurd hl (Nat.not_lt.2 (Nat.le_add_left _ _))

/-- so its frame is the one proved for any reading of the floats. -/
theorem ffn_frame : Cert.quiescent_ConvFfn := by
  intro m ρ _
  have hd : Cert.ConvFfn.defs (F := Bits) = Cert.ConvFfnIdeal.defs (F := Bits) :=
    congrArg (Pipeline.defs Cert.ConvFfn.pcfgs) ffn_defs₀
  rw [hd]
  exact Cert.ConvFfnIdeal.Hand.frame (F := Bits) m ρ

/-- Its reference ends with its arguments kept and every semaphore at zero. -/
theorem ffnRef_frame : Cert.quiescent_ConvFfnRefIdeal := fun m ρ _ =>
  (θ_run _ _ _).mono (fun r h => ⟨fun c => (h c).2, sem_eq_zero_of_no_sems (by decide) r.2⟩) (Cert.ConvFfnRefIdeal.Value.run m ρ)

/-- The channel mixer computes its reference's result. -/
theorem ffn_algebraic : Cert.algebraic_ConvFfnIdeal_ConvFfnRefIdeal := by
  intro m ρ m' ρ' _ hagree
  refine ⟨_, Cert.ConvFfnIdeal.Hand.run m ρ, ?_⟩
  refine (θ_run _ _ _).mono (fun r h c => ⟨((h c).1.trans (Cert.ConvFfnRefIdeal.Read.val_main_v59_eq m' c)).trans ?_, (h c).2⟩)
    (Cert.ConvFfnRefIdeal.Value.run m' ρ')
  obtain ⟨h0, h1, h2, h3, h4, h5⟩ := hagree c
  rw [h0, h1, h2, h3, h4, h5]

end Cert.Proof

end
-- ==== Proof.RopeValue.lean ====
/-
  Hand-written. The rotary tables after the run, index by index, and their equality with the reference's terms.
-/
module

public import proofs.«01_k».proof.Proof.Gen.RopeIdeal.Value
public import proofs.«01_k».proof.Proof.Gen.RopeRefIdeal.Run
public import Idealize.ShloMosaic.Lib.Pipeline.ValueKit

@[expose] public section

set_option maxRecDepth 16384

noncomputable section

namespace Cert.Proof.RopeValue

open Idealize.ShloMosaic Idealize.ShloMosaic.TcCoe Idealize.SL.Sem
open Idealize.ShloMosaic.Pipeline (Dat)
open Cert.RopeIdeal Cert.RopeIdeal.Gen

variable (m : (ℓ : Loc nD τ sig) → Buf (Elt Ideal) ℓ)

/-- The sixteen inverse frequencies, the same host lines on both sides. -/
def FREQ : FVec Ideal S16 .f32 :=
  Host.powf (broadcastInDim S16 ![] Cert.RopeRefIdeal.Gen.bcast_S_S16 (constant S_ .f32 0x48F42400#32)) (Host.divf (Host.negf (addf (broadcastInDim S16 ![] Cert.RopeRefIdeal.Gen.bcast_S_S16 (constant S_ .f32 0x00000000#32)) (mulf (broadcastInDim S16 ![] Cert.RopeRefIdeal.Gen.bcast_S_S16 (constant S_ .f32 0x40000000#32)) (sitofp .f32 (iotaInDim S16 32 0))))) (broadcastInDim S16 ![] Cert.RopeRefIdeal.Gen.bcast_S_S16 (constant S_ .f32 0x42000000#32)))

/-- The reference's angles. -/
abbrev ANG (p : IVec S16x2048 32) : FVec Ideal Cert.RopeRefIdeal.S16x2048x16 .f32 :=
  mulf (broadcastInDim Cert.RopeRefIdeal.S16x2048x16 ![0, 1, 2] Cert.RopeRefIdeal.Gen.bcast_S16x2048x1_S16x2048x16_0_1_2 (broadcastInDim Cert.RopeRefIdeal.S16x2048x1 ![0, 1] Cert.RopeRefIdeal.Gen.bcast_S16x2048_S16x2048x1_0_1 (sitofp .f32 p))) (broadcastInDim Cert.RopeRefIdeal.S16x2048x16 ![0, 1, 2] Cert.RopeRefIdeal.Gen.bcast_S1x1x16_S16x2048x16_0_1_2 (broadcastInDim Cert.RopeRefIdeal.S1x1x16 ![2] Cert.RopeRefIdeal.Gen.bcast_S16_S1x1x16_2 FREQ))

/-- The reference's cosine table over the positions. -/
abbrev COS (p : IVec S16x2048 32) : FVec Ideal S16x2048x128 .f32 :=
  concatenate S16x2048x128 2 [⟨Cert.RopeRefIdeal.S16x2048x16, Host.cos (ANG p)⟩, ⟨Cert.RopeRefIdeal.S16x2048x16, Host.cos (ANG p)⟩, ⟨Cert.RopeRefIdeal.S16x2048x96, broadcastInDim Cert.RopeRefIdeal.S16x2048x96 ![] Cert.RopeRefIdeal.Gen.bcast_S_S16x2048x96 (constant S_ .f32 0x3F800000#32)⟩] Cert.RopeRefIdeal.Gen.concatenates_S16x2048x16_S16x2048x16_S16x2048x96_S16x2048x128_d2

/-- The reference's sine table over the positions. -/
abbrev SIN (p : IVec S16x2048 32) : FVec Ideal S16x2048x128 .f32 :=
  concatenate S16x2048x128 2 [⟨Cert.RopeRefIdeal.S16x2048x16, Host.sin (ANG p)⟩, ⟨Cert.RopeRefIdeal.S16x2048x16, Host.sin (ANG p)⟩, ⟨Cert.RopeRefIdeal.S16x2048x96, broadcastInDim Cert.RopeRefIdeal.S16x2048x96 ![] Cert.RopeRefIdeal.Gen.bcast_S_S16x2048x96 (constant S_ .f32 0x00000000#32)⟩] Cert.RopeRefIdeal.Gen.concatenates_S16x2048x16_S16x2048x16_S16x2048x96_S16x2048x128_d2

/-- The inverse frequency numbered `d`. -/
def FQ (d : ℕ) : Ideal .f32 :=
  Ideal.pow (Ideal.ofBits FTy.f32 0x48F42400#32) (Ideal.div (-(Ideal.ofBits FTy.f32 0x40000000#32 * FloatOps.sitofp (F := Ideal) FTy.f32 (BitVec.ofNat 32 d)))
    (Ideal.ofBits FTy.f32 0x42000000#32))

/-- A frequency, by its number. -/
theorem freq_apply (i : S16.Idx) : FREQ i = FQ (i 0).val := by
  pointwise [FREQ]
  rfl

/-- A table's entry: the function of position times frequency on the first 32 lanes, the fill after them. -/
def TAB (f : Ideal .f32 → Ideal .f32) (w : Ideal .f32) (p : IVec S16x2048 32) (i : S16x2048x128.Idx) : Ideal .f32 :=
  if (i 2).val < 32 then f (FloatOps.sitofp (F := Ideal) FTy.f32 (p (ix2 (i 0) (i 1))) * FQ ((i 2).val % 16)) else w

/-- Lanes under 32, told as the reference's two blocks of 16. -/
theorem split (g : ℕ → Ideal .f32) (w : Ideal .f32) (n : ℕ) :
    (if n < 16 then g n else if n - 16 < 16 then g (n - 16) else w) = if n < 32 then g (n % 16) else w := by
  by_cases h : n < 16
  · rw [if_pos h, if_pos (by omega), Nat.mod_eq_of_lt h]
  · rw [if_neg h]
    by_cases h' : n < 32
    · rw [if_pos (by omega), if_pos h', show n % 16 = n - 16 by omega]
    · rw [if_neg (by omega), if_neg h']

/-- The reference's cosine table at an index. -/
theorem cos_apply (p : IVec S16x2048 32) (i : S16x2048x128.Idx) : COS p i = TAB Ideal.cos 1 p i := by
  pointwise [COS, ANG]
  simp only [freq_apply]
  exact split (fun n => Ideal.cos (FloatOps.sitofp (F := Ideal) FTy.f32 (p (ix2 (i 0) (i 1))) * FQ n)) 1 (i 2).val

/-- The reference's sine table at an index. -/
theorem sin_apply (p : IVec S16x2048 32) (i : S16x2048x128.Idx) : SIN p i = TAB Ideal.sin 0 p i := by
  pointwise [SIN, ANG]
  simp only [freq_apply]
  exact split (fun n => Ideal.sin (FloatOps.sitofp (F := Ideal) FTy.f32 (p (ix2 (i 0) (i 1))) * FQ n)) 0 (i 2).val

/-- The windows' block indices at a point. -/
theorem idx : ∀ t : Fin cfg0.N, win0_0.index t = ![t.val, 0, 0] ∧ win0_1.index t = ![0, 0] ∧ win0_2.index t = ![t.val, 0, 0]
    ∧ win0_3.index t = ![t.val, 0, 0] :=
  (by decide +kernel : ∀ t : Fin grid0.N, _)

/-- The block of positions: the point's row. -/
theorem blk0 (c : Dev nD) (t : Fin cfg0.N) (y : S1x1x2048.Idx) (i : S16x2048.Idx) (h0 : (i 0).val = t.val) (h1 : (i 1).val = (y 2).val) :
    (iblk m c 0 t : IVec S1x1x2048 32) y = (m ((c : Thread nD τ).loc main_arg0) : IVec S16x2048 32) i := by
  blk_simp [iblk, idx t]
  entry_read
  pointwise
  blk_ext [idx t]

/-- The block of frequencies: the sixteen, twice. -/
theorem blk1 (c : Dev nD) (t : Fin cfg0.N) (y : S32x1.Idx) :
    (iblk m c 1 t : FVec Ideal S32x1 .f32) y = FQ ((y 0).val % 16) := by
  blk_simp [iblk, idx t]
  entry_read
  pointwise
  have e : ((((View.whole main_v11).slice (win0_1.rect t)).emb y) 0 : ℕ) = (y 0).val := by blk_simp [idx t]
  have hy : (y 0).val < 32 := (y 0).isLt
  rw [e]
  show (if h : (y 0).val < 16 then FQ (y 0).val else FQ ((y 0).val - 16)) = _
  by_cases h : (y 0).val < 16
  · rw [dif_pos h, Nat.mod_eq_of_lt h]
  · rw [dif_neg h, show (y 0).val % 16 = (y 0).val - 16 by omega]

/-- A stored tile's contents over the whole block: the values by lane and row, transposed, then the fill. -/
def lanes (v : FVec Ideal S32x2048 .f32) (w : Ideal .f32) (y : S1x2048x128.Idx) : Ideal .f32 :=
  if h : (y 2).val < 32 then v (ix2 ⟨(y 2).val, h⟩ (y 1)) else w

/-- A stored piece, a slice of columns on top of a block of fill, transposed, is its tile of the block. -/
theorem tile (o : ℕ) (hs : S32x2048.Slices ![0, o] S32x128) (v : FVec Ideal S32x2048 .f32) (w : Ideal .f32)
    (inb : ∀ a, (![0, o, 0] : Fin 3 → Nat) a + S1x128x128.size a ≤ S1x2048x128.size a) (x : S1x128x128.Idx) :
    shapeCast S1x128x128 (transpose S128x128 [1, 0] (concatenate S128x128 0 [⟨S32x128, extractStridedSlice S32x128 ![0, o] v hs⟩, ⟨S96x128, broadcast S96x128 w⟩] concatenates_S32x128_S96x128_S128x128_d0) transposes_S128x128_p1_0_S128x128) shapeCasts_S128x128_S1x128x128 x
    = lanes v w ((Rect.unit (s := S1x2048x128) ![0, o, 0] S1x128x128.size inb).emb x) := by
  pointwise
  have e1 : (((Rect.unit (s := S1x2048x128) ![0, o, 0] S1x128x128.size inb).emb x) 1 : ℕ) = o + (x 1).val := by
    show o + 1 * (x 1).val = _; omega
  have e2 : (((Rect.unit (s := S1x2048x128) ![0, o, 0] S1x128x128.size inb).emb x) 2 : ℕ) = (x 2).val := by
    show 0 + 1 * (x 2).val = _; omega
  unfold lanes
  by_cases h : (x 2).val < 32
  · rw [dif_pos h, dif_pos (e2.trans_lt h)]
    exact congrArg₂ (fun a b => v (ix2 a b)) (Fin.ext e2.symm) (Fin.ext e1.symm)
  · rw [dif_neg h, dif_neg (fun h' => h (e2.symm.trans_lt h'))]

/-- What point `t` leaves in the cos table's buffer, index by index. -/
theorem out_cos (c : Dev nD) (t : Fin cfg0.N) (y : S1x2048x128.Idx) :
    out0_2 (iblk m c 0 t) (iblk m c 1 t) y = TAB Ideal.cos 1 (m ((c : Thread nD τ).loc main_arg0)) (((cfg0.win 2).blk t).view.emb y) := by
  refine (View.canon_apply_of_pieces (lanes (k0_pay6 (View.ld (iblk m c 0 t) r0_0) (View.ld (iblk m c 1 t) r0_1)) (Scalar.ofBits .f32 0x3F800000#32)) _ ?_ y
    (cover0_2 _ _ _ _ _ _ _ _ _ _ _ _ _ _ _ _ y)).trans ?_
  · simp only [List.forall_mem_cons]
    exact ⟨tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, fun _ h => absurd h List.not_mem_nil⟩
  · obtain ⟨e0, e1, e2⟩ : ((((cfg0.win 2).blk t).view.emb y) 0 : ℕ) = t.val ∧ ((((cfg0.win 2).blk t).view.emb y) 1 : ℕ) = (y 1).val
        ∧ ((((cfg0.win 2).blk t).view.emb y) 2 : ℕ) = (y 2).val := by
      refine ⟨?_, ?_, ?_⟩ <;> blk_simp [idx t]
    unfold lanes TAB
    rw [e2]
    by_cases h : (y 2).val < 32
    · rw [dif_pos h, if_pos h]
      pointwise [k0_pay6, k0_pay5]
      rw [blk1, mul_comm]
      exact congrArg Ideal.cos (congrArg (· * _) (congrArg (FloatOps.sitofp (F := Ideal) FTy.f32) (blk0 m c t _ _ e0 e1)))
    · rw [dif_neg h, if_neg h]
      pointwise

/-- What point `t` leaves in the sin table's buffer, index by index. -/
theorem out_sin (c : Dev nD) (t : Fin cfg0.N) (y : S1x2048x128.Idx) :
    out0_3 (iblk m c 0 t) (iblk m c 1 t) y = TAB Ideal.sin 0 (m ((c : Thread nD τ).loc main_arg0)) (((cfg0.win 3).blk t).view.emb y) := by
  refine (View.canon_apply_of_pieces (lanes (k0_pay7 (View.ld (iblk m c 0 t) r0_0) (View.ld (iblk m c 1 t) r0_1)) (Scalar.ofBits .f32 0x00000000#32)) _ ?_ y
    (cover0_3 _ _ _ _ _ _ _ _ _ _ _ _ _ _ _ _ y)).trans ?_
  · simp only [List.forall_mem_cons]
    exact ⟨tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, tile _ _ _ _ _, fun _ h => absurd h List.not_mem_nil⟩
  · obtain ⟨e0, e1, e2⟩ : ((((cfg0.win 3).blk t).view.emb y) 0 : ℕ) = t.val ∧ ((((cfg0.win 3).blk t).view.emb y) 1 : ℕ) = (y 1).val
        ∧ ((((cfg0.win 3).blk t).view.emb y) 2 : ℕ) = (y 2).val := by
      refine ⟨?_, ?_, ?_⟩ <;> blk_simp [idx t]
    unfold lanes TAB
    rw [e2]
    by_cases h : (y 2).val < 32
    · rw [dif_pos h, if_pos h]
      pointwise [k0_pay7, k0_pay5]
      rw [blk1, mul_comm]
      exact congrArg Ideal.sin (congrArg (· * _) (congrArg (FloatOps.sitofp (F := Ideal) FTy.f32) (blk0 m c t _ _ e0 e1)))
    · rw [dif_neg h, if_neg h]
      pointwise

/-- The cos table after the run is the reference's. -/
theorem final_cos (c : Dev nD) : (dats m 0 c).arrAt 2 cfg0.N = COS (m ((c : Thread nD τ).loc main_arg0)) := by
  refine (dats m 0 c).arrAt_eq_of_covers 2 _ (by decide +kernel) fun t _ y => ?_
  blk_simp
  rw [after0_2, cos_apply]
  exact out_cos m c t y

/-- The sin table after the run is the reference's. -/
theorem final_sin (c : Dev nD) : (dats m 0 c).arrAt 3 cfg0.N = SIN (m ((c : Thread nD τ).loc main_arg0)) := by
  refine (dats m 0 c).arrAt_eq_of_covers 3 _ (by decide +kernel) fun t _ y => ?_
  blk_simp
  rw [after0_3, sin_apply]
  exact out_sin m c t y

end Cert.Proof.RopeValue

end
-- ==== Proof.RopeClaims.lean ====
/-
  Hand-written. The claims of the rotary tables: the reference's frame, and that the kernel's tables are the reference's.
-/
module

public import proofs.«01_k».proof.Defs
public import proofs.«01_k».proof.Proof.RopeValue
public import proofs.«01_k».proof.Proof.Gen.RopeRefIdeal.Run
public import Idealize.ShloMosaic.Lib.Quiescent

@[expose] public section

set_option maxRecDepth 16384

noncomputable section

namespace Cert.Proof

open Idealize.ShloMosaic Idealize.ShloMosaic.TcCoe Idealize.SL.Sem

/-- The tables' reference ends with its argument kept and every semaphore at zero. -/
theorem ropeRef_frame : Cert.quiescent_RopeRefIdeal := fun m ρ _ =>
  (θ_run _ _ _).mono (fun r h => ⟨fun c => (h c).2.2, sem_eq_zero_of_no_sems (by decide) r.2⟩) (Cert.RopeRefIdeal.Value.run m ρ)

/-- The kernel computes the reference's cosine and sine tables. -/
theorem rope_algebraic : Cert.algebraic_RopeIdeal_RopeRefIdeal := by
  intro m ρ m' ρ' _ hagree
  refine ⟨_, _, (θ_run _ _ _).mono (fun r h c => ⟨(h c).1.trans (Cert.Proof.RopeValue.final_cos m c),
    (h c).2.1.trans (Cert.Proof.RopeValue.final_sin m c), (h c).2.2⟩) (Cert.RopeIdeal.Value.run_blocks m ρ), ?_⟩
  refine (θ_run _ _ _).mono (fun r h c => ⟨(h c).1.trans ?_, (h c).2.1.trans ?_, (h c).2.2⟩) (Cert.RopeRefIdeal.Value.run m' ρ')
  · rw [hagree c]
    rfl
  · rw [hagree c]
    rfl

end Cert.Proof

end
-- ==== Proof.Safe.lean ====
/-
  Hand-written. Programs that keep what they run with: a program that only loads from and stores into buffers held beside it runs
  without fault and hands every buffer back. The rules follow the program's shape, so a long body is gone through line by line
  without naming what it computes.
-/
module

public import Idealize.ShloMosaic.Lib.WritesUnit
public import Idealize.ShloMosaic.Lib.ReshapeSlab
public import Idealize.ShloMosaic.Lib.Memref
public import Idealize.ShloMosaic.Lib.Tactic
public import Idealize.ShloMosaic.Lib.Scf
public import Idealize.ShloMosaic.Lib.Pipeline.Kit

@[expose] public section

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
local notation "𝕄" => MT nD τ sig Unit Val ℕ (UR sig nD τ) ℕ

/-- The program runs from `P` to `P`, whatever it returns. -/
def Safe (defs : Defs nD τ sig Val Λ) (c : Dev nD) (P : sProp 𝕄) {α : Type} (p : Prog (TpuEff nD τ sig Val Λ .tc) α) : Prop :=
  P ⊢ wp frame (wpE defs Variants.none (c : Thread nD τ) none) Set.univ p (fun _ => P)

variable {defs : Defs nD τ sig Val Λ} {c : Dev nD} {α β : Type}
variable {P R : sProp (MT nD τ sig Unit Val ℕ (UR sig nD τ) ℕ)}

theorem Safe.ret (a : α) : Safe defs c P (.ret a) := le_wp_ret _ _ _ a (fun _ => P)

theorem Safe.pure (a : α) : Safe defs c P (pure a : Prog (TpuEff nD τ sig Val Λ .tc) α) := Safe.ret a

theorem Safe.bind {p : Prog (TpuEff nD τ sig Val Λ .tc) α} {k : α → Prog (TpuEff nD τ sig Val Λ .tc) β}
    (hp : Safe defs c P p) (hk : ∀ a, Safe defs c P (k a)) : Safe defs c P (p >>= k) := by
  unfold Safe
  rw [wp_bind]
  exact hp.trans (wp_mono _ _ _ hk)

/-- Beside anything else held, -/
theorem Safe.right {p : Prog (TpuEff nD τ sig Val Λ .tc) α} (hp : Safe defs c P p) : Safe defs c iprop(P ∗ R) p :=
  (sep_mono_l hp).trans (wp_frame_r _ _ _)

/-- on either side. -/
theorem Safe.left {p : Prog (TpuEff nD τ sig Val Λ .tc) α} (hp : Safe defs c P p) : Safe defs c iprop(R ∗ P) p :=
  (sep_mono_r hp).trans (wp_frame_l _ _ _)

/-- A load from a memref held at known contents. -/
theorem Safe.load {cs : CoreSpace} {s : Shape} {e : EltTy} (m : Memref sig .tc cs s e) (X : s.Idx → Val e) (r : LoadRect s) (hl : m.view.LoadsAt r) :
    Safe defs c (owns (c : Thread nD τ) m fullShare X) (Prog.lift (.load m r hl)) := by
  unfold Safe owns Prog.lift
  iintro ⟨%f, %hf, H⟩
  iapply (wp_load (defs := defs) Variants.none (c : Thread nD τ) none Set.univ (m := m) (r := r) (hl := hl) (View.setOn_subset_set _ _)) $$ [H]
  · iexact H
  iintro H
  iapply (le_wp_ret _ _ _ _ _)
  iexists f
  isplitr
  · ipureintro; exact hf
  iexact H

/-- A load from a memref held at some contents. -/
theorem Safe.load_some {cs : CoreSpace} {s : Shape} {e : EltTy} (m : Memref sig .tc cs s e) (r : LoadRect s) (hl : m.view.LoadsAt r) :
    Safe defs c iprop(∃ X, owns (c : Thread nD τ) m fullShare X) (Prog.lift (.load m r hl)) := by
  unfold Safe
  iintro ⟨%X, H⟩
  iapply ((Safe.load (defs := defs) (c := c) m X r hl).trans (wp_mono _ _ _ fun _ => exists_intro X))
  iexact H

/-- A store into a memref held at some contents. -/
theorem Safe.store {cs : CoreSpace} {s : Shape} {e : EltTy} (m : Memref sig .tc cs s e) (r : Rect s) (w : r.shape.Idx → Val e) (Mk : Finset r.shape.Idx)
    (hx : (m.access r).Stores Mk) (hm : Mk = Finset.univ ∨ ∀ a, r.stride a = 1) :
    Safe defs c iprop(∃ X, owns (c : Thread nD τ) m fullShare X) (Prog.lift (.store m r w Mk hx hm)) := by
  unfold Safe owns Prog.lift
  iintro ⟨%X, %f, %hf, H⟩
  iapply (wp_store (defs := defs) Variants.none (c : Thread nD τ) none Set.univ (m := m) (r := r) (w := w) (Mk := Mk) (hx := hx) (hm := hm) (S := m.view.set) (f := f)
    ((m.setOn_access_subset_setOn r Mk).trans (View.setOn_subset_set _ _))) $$ [H]
  · iexact H
  iintro H
  iapply (le_wp_ret _ _ _ _ _)
  iexists (m.view.read Val ((m.access r).write Val f w Mk))
  iexists ((m.access r).write Val f w Mk)
  isplitr
  · ipureintro; exact rfl
  iexact H

/-- A counted loop of such trips. -/
theorem Safe.loop {w : ℕ} {σ : Type} (l : Scf.Loop w) (hok : l.OK) (init : σ) (body : Fin l.trips → σ → Prog (TpuEff nD τ sig Val Λ .tc) σ)
    (hb : ∀ k a, Safe defs c P (body k a)) : Safe defs c P (Scf.Loop.for l hok init body) := by
  unfold Safe
  have h := Scf.wp_for frame (wpE defs Variants.none (c : Thread nD τ) none) Set.univ l.lb l.ub l.st hok init body (fun _ _ => P) hb (Q := fun _ => P)
  refine BIBase.Entails.trans ?_ h
  iintro H
  isplitl [H]; · iexact H
  iintro %acc H
  iexact H

attribute [irreducible] Safe

/-- Every load from the memref keeps `P`. -/
abbrev CanLoad (defs : Defs nD τ sig Val Λ) (c : Dev nD) (P : sProp (MT nD τ sig Unit Val ℕ (UR sig nD τ) ℕ)) {cs : CoreSpace} {s : Shape} {e : EltTy}
    (m : Memref sig .tc cs s e) : Prop :=
  ∀ (r : LoadRect s) (hl : m.view.LoadsAt r), Safe defs c P (Prog.lift (.load m r hl))

/-- Every store into the memref keeps `P`. -/
abbrev CanStore (defs : Defs nD τ sig Val Λ) (c : Dev nD) (P : sProp (MT nD τ sig Unit Val ℕ (UR sig nD τ) ℕ)) {cs : CoreSpace} {s : Shape} {e : EltTy}
    (m : Memref sig .tc cs s e) : Prop :=
  ∀ (r : Rect s) (w : r.shape.Idx → Val e) (Mk : Finset r.shape.Idx) (hx : (m.access r).Stores Mk) (hm : Mk = Finset.univ ∨ ∀ a, r.stride a = 1),
    Safe defs c P (Prog.lift (.store m r w Mk hx hm))

/-- The parts of a tuple, one at a time. -/
theorem forall_parts {A : Type} {B : A → Type} {p : PSigma B → Prop} (h : ∀ a b, p ⟨a, b⟩) : ∀ x, p x
  | ⟨a, b⟩ => h a b

end Cert.Hand

end
-- ==== Proof.DilSafe.lean ====
/-
  Hand-written. `DilatedIdeal`'s body keeps what it runs with: it loads from its input blocks and stores into its output block and its
  scratches, and hands every one of them back.
-/
module

public import proofs.«01_k».proof.Proof.Safe
public import proofs.«01_k».proof.Proof.Gen.DilatedIdeal.Frame
public import proofs.«01_k».proof.Proof.Gen.DilatedIdeal.Skeleton

@[expose] public section

set_option maxRecDepth 65536

noncomputable section

namespace Cert.DilatedIdeal.Hand

open Cert.DilatedIdeal Cert.DilatedIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 40000000 in
/-- Where every load and every store alone keeps `P`, so does the body. -/
theorem body_safe (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .f32) (harg11 : arg11.IsWhole) (arg12 : Memref sig .tc .vmem S1x2048x128 .f32) (harg12 : arg12.IsWhole) (arg13 : Memref sig .tc .vmem S128x128 .bf16) (harg13 : arg13.IsWhole) (arg14 : Memref sig .tc .vmem S1x2048x128 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S3x2048x128 .f32) (harg18 : arg18.IsWhole) (arg19 : Memref sig .tc .vmem S3x2048x128 .f32) (harg19 : arg19.IsWhole) (arg20 : Memref sig .tc .vmem S3x128x256 .f32) (harg20 : arg20.IsWhole) (P : sProp 𝕄)
    (h2 : CanLoad (defs₀ (F := F)) c P arg2)
    (h3 : CanLoad (defs₀ (F := F)) c P arg3)
    (h4 : CanLoad (defs₀ (F := F)) c P arg4)
    (h5 : CanLoad (defs₀ (F := F)) c P arg5)
    (h6 : CanLoad (defs₀ (F := F)) c P arg6)
    (h7 : CanLoad (defs₀ (F := F)) c P arg7)
    (h8 : CanLoad (defs₀ (F := F)) c P arg8)
    (h9 : CanLoad (defs₀ (F := F)) c P arg9)
    (h10 : CanLoad (defs₀ (F := F)) c P arg10)
    (h11 : CanLoad (defs₀ (F := F)) c P arg11)
    (h12 : CanLoad (defs₀ (F := F)) c P arg12)
    (h13 : CanLoad (defs₀ (F := F)) c P arg13)
    (h14 : CanLoad (defs₀ (F := F)) c P arg14)
    (h15 : CanLoad (defs₀ (F := F)) c P arg15)
    (h16 : CanLoad (defs₀ (F := F)) c P arg16)
    (h17 : CanLoad (defs₀ (F := F)) c P arg17)
    (h18 : CanLoad (defs₀ (F := F)) c P arg18)
    (h19 : CanLoad (defs₀ (F := F)) c P arg19)
    (h20 : CanLoad (defs₀ (F := F)) c P arg20)
    (s14 : CanStore (defs₀ (F := F)) c P arg14)
    (s15 : CanStore (defs₀ (F := F)) c P arg15)
    (s16 : CanStore (defs₀ (F := F)) c P arg16)
    (s17 : CanStore (defs₀ (F := F)) c P arg17)
    (s18 : CanStore (defs₀ (F := F)) c P arg18)
    (s19 : CanStore (defs₀ (F := F)) c P arg19)
    (s20 : CanStore (defs₀ (F := F)) c P arg20) :
    Safe (defs₀ (F := F)) c P (cc0_dilated_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [cc0_dilated_attention_eq_skeleton]
  unfold cc0_dilated_attention_skel
  repeat' first
    | with_reducible refine Safe.bind ?_ ?_
    | with_reducible exact Safe.pure _
    | with_reducible refine forall_parts ?_
    | intro _
    | with_reducible exact h2 _ _
    | with_reducible exact h3 _ _
    | with_reducible exact h4 _ _
    | with_reducible exact h5 _ _
    | with_reducible exact h6 _ _
    | with_reducible exact h7 _ _
    | with_reducible exact h8 _ _
    | with_reducible exact h9 _ _
    | with_reducible exact h10 _ _
    | with_reducible exact h11 _ _
    | with_reducible exact h12 _ _
    | with_reducible exact h13 _ _
    | with_reducible exact h14 _ _
    | with_reducible exact h15 _ _
    | with_reducible exact h16 _ _
    | with_reducible exact h17 _ _
    | with_reducible exact h18 _ _
    | with_reducible exact h19 _ _
    | with_reducible exact h20 _ _
    | with_reducible exact s14 _ _ _ _ _
    | with_reducible exact s15 _ _ _ _ _
    | with_reducible exact s16 _ _ _ _ _
    | with_reducible exact s17 _ _ _ _ _
    | with_reducible exact s18 _ _ _ _ _
    | with_reducible exact s19 _ _ _ _ _
    | with_reducible exact s20 _ _ _ _ _
    | with_reducible refine Safe.loop _ _ _ _ ?_
    | unfold k0_t1_body
    | (simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton]; delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel k0_part107_skel k0_part108_skel k0_part109_skel k0_part110_skel k0_part111_skel k0_part112_skel k0_part113_skel k0_part114_skel k0_part115_skel k0_part116_skel k0_part117_skel k0_part118_skel k0_part119_skel k0_part120_skel k0_part121_skel k0_part122_skel k0_part123_skel k0_part124_skel k0_part125_skel k0_part126_skel k0_part127_skel k0_part128_skel k0_part129_skel k0_part130_skel k0_part131_skel k0_part132_skel k0_part133_skel k0_part134_skel k0_part135_skel k0_part136_skel k0_part137_skel k0_part138_skel k0_part139_skel k0_part140_skel)

end Cert.DilatedIdeal.Hand

end
-- ==== Proof.DilFrame.lean ====
/-
  Hand-written. `DilatedIdeal`'s frame: the body hands back every buffer it runs with, at contents left unsaid, so the call runs to
  its end with its arguments kept and every semaphore at zero.
-/
module

public import proofs.«01_k».proof.Proof.DilSafe
public import proofs.«01_k».proof.Proof.Gen.DilatedIdeal.Points
public import proofs.«01_k».proof.Proof.Gen.DilatedIdeal.Launch
public import Idealize.ShloMosaic.Lib.Pipeline.TableIdle

@[expose] public section

set_option maxRecDepth 16384

noncomputable section

namespace Cert.DilatedIdeal.Hand

open Cert.DilatedIdeal Cert.DilatedIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant's scratches as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The proof data: no contents named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

/-- A window's buffer at a point, at some contents. -/
def buf (c : Dev nD) (t : Fin cfg0.N) (w : Fin 13) : sProp 𝕄 :=
  iprop(∃ X, owns (c : Thread nD τ) ((cfg0.win w).stage (cfg0.slots t w)) fullShare X)

/-- What the body runs with at a point, and hands back. -/
def held (c : Dev nD) (t : Fin cfg0.N) : sProp 𝕄 :=
  iprop(Pipeline.ΦA spec0 c ∗ (dats m 0 c).owesAt () t.castSucc ∗ bigSep Finset.univ (buf c t))

set_option maxHeartbeats 4000000 in
/-- The body at a point hands back what it runs with. -/
theorem sound_body (c : Dev nD) (t : Fin cfg0.N) : Safe (defs₀ (F := F)) c (held m c t) (bodyAt0 t) := by
  unfold held
  rw [PhiA0_eq, bigSep_W0]
  apply body_safe
  · exact fun r hl => Safe.left (Safe.left (Safe.right (Safe.load_some _ r hl)))
  · exact fun r hl => Safe.left (Safe.left (Safe.left (Safe.right (Safe.load_some _ r hl))))
  · exact fun r hl => Safe.left (Safe.left (Safe.left (Safe.left (Safe.right (Safe.load_some _ r hl)))))
  · exact fun r hl => Safe.left (Safe.left (Safe.left (Safe.left (Safe.left (Safe.right (Safe.load_some _ r hl))))))
  · exact fun r hl => Safe.left (Safe.left (Safe.left (Safe.left (Safe.left (Safe.left (Safe.right (Safe.load_some _ r hl)))))))
  · exact fun r hl => Safe.left (Safe.left (Safe.left (Safe.left (Safe.left (Safe.left (Safe.left (Safe.right (Safe.load_some _ r hl))))))))
  · exact fun r hl => Safe.left (Safe.left (Safe.left (Safe.left (Safe.left (Safe.left (Safe.left (Safe.left (Safe.right (Safe.load_some _ r hl)))))))))
  · exact fun r hl => Safe.left (Safe.left (Safe.left (Safe.left (Safe.left (Safe.left (Safe.left (Safe.left (Safe.left (Safe.right (Safe.load_some _ r hl))))))))))
  · exact fun r hl => Safe.left (Safe.left (Safe.left (Safe.left (Safe.left (Safe.left (Safe.left (Safe.left (Safe.left (Safe.left (Safe.right (Safe.load_some _ r hl)))))))))))
  · exact fun r hl => Safe.left (Safe.left (Safe.left (Safe.left (Safe.left (Safe.left (Safe.left (Safe.left (Safe.left (Safe.left (Safe.left (Safe.right (Safe.load_some _ r hl))))))))))))
  · exact fun r hl => Safe.left (Safe.left (Safe.left (Safe.left (Safe.left (Safe.left (Safe.left (Safe.left (Safe.left (Safe.left (Safe.left (Safe.left (Safe.right (Safe.load_some _ r hl)))))))))))))
  · exact fun r hl => Safe.left (Safe.left (Safe.left (Safe.left (Safe.left (Safe.left (Safe.left (Safe.left (Safe.left (Safe.left (Safe.left (Safe.left (Safe.left (Safe.right (Safe.load_some _ r hl))))))))))))))
  · exact fun r hl => Safe.left (Safe.left (Safe.left (Safe.left (Safe.left (Safe.left (Safe.left (Safe.left (Safe.left (Safe.left (Safe.left (Safe.left (Safe.left (Safe.left (Safe.load_some _ r hl))))))))))))))
  · exact fun r hl => Safe.right (Safe.right (Safe.right (Safe.load_some _ r hl)))
  · exact fun r hl => Safe.right (Safe.right (Safe.left (Safe.right (Safe.load_some _ r hl))))
  · exact fun r hl => Safe.right (Safe.right (Safe.left (Safe.left (Safe.right (Safe.load_some _ r hl)))))
  · exact fun r hl => Safe.right (Safe.right (Safe.left (Safe.left (Safe.left (Safe.right (Safe.load_some _ r hl))))))
  · exact fun r hl => Safe.right (Safe.right (Safe.left (Safe.left (Safe.left (Safe.left (Safe.right (Safe.load_some _ r hl)))))))
  · exact fun r hl => Safe.right (Safe.right (Safe.left (Safe.left (Safe.left (Safe.left (Safe.left (Safe.load_some _ r hl)))))))
  · exact fun r w Mk hx hm => Safe.left (Safe.left (Safe.left (Safe.left (Safe.left (Safe.left (Safe.left (Safe.left (Safe.left (Safe.left (Safe.left (Safe.left (Safe.left (Safe.left (Safe.store _ r w Mk hx hm))))))))))))))
  · exact fun r w Mk hx hm => Safe.right (Safe.right (Safe.right (Safe.store _ r w Mk hx hm)))
  · exact fun r w Mk hx hm => Safe.right (Safe.right (Safe.left (Safe.right (Safe.store _ r w Mk hx hm))))
  · exact fun r w Mk hx hm => Safe.right (Safe.right (Safe.left (Safe.left (Safe.right (Safe.store _ r w Mk hx hm)))))
  · exact fun r w Mk hx hm => Safe.right (Safe.right (Safe.left (Safe.left (Safe.left (Safe.right (Safe.store _ r w Mk hx hm))))))
  · exact fun r w Mk hx hm => Safe.right (Safe.right (Safe.left (Safe.left (Safe.left (Safe.left (Safe.right (Safe.store _ r w Mk hx hm)))))))
  · exact fun r w Mk hx hm => Safe.right (Safe.right (Safe.left (Safe.left (Safe.left (Safe.left (Safe.left (Safe.store _ r w Mk hx hm)))))))

/-- The body as the region calls it. -/
theorem defs₀_row (t : Fin cfg0.N) : defs₀ (F := F) .tc cfg0.body (cfg0.bodyArgs t (cfg0.slots t)) = bodyAt0 t := by
  unfold defs₀; rw [Defs.onTc_tc]

/-- The body's obligation, every window's contents left unsaid. -/
theorem body_obligation (c : Dev nD) :
    BodyObligation (dats m 0 c) (defs₀ (F := F)) Variants.none () Set.univ (fun _ => true) := fun t => by
  rw [defs₀_row]
  have h := sound_body m c t
  unfold Safe at h
  exact h

set_option backward.isDefEq.respectTransparency.types false in
/-- The launch: every input's array ends as it began, every semaphore counter at zero. -/
theorem run_main : θ_run defs (onTc (τ := τ) (main (F := F))) (s₀ m ρ)
    (fun r => RDat.FramePost (cfgs 0) (fun c => (dats m 0 c).toRForget (fun _ => true)) (V m) r ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := fun _ _ => rfl) (hΦ := fun _ _ => rfl)

/-- The call runs to its end, its arguments kept and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 8 rfl).trans (V_main_arg0 m c), (h.1.arr_in c 9 rfl).trans (V_main_arg1 m c), (h.1.arr_in c 10 rfl).trans (V_main_arg2 m c)⟩, h.2⟩)
    (run_main m ρ)

end Cert.DilatedIdeal.Hand

end
-- ==== Proof.lean ====
/- The proof of every claim the certificate makes: each program's frame, and each kernel call against its reference. -/
module

public import proofs.«01_k».proof.Defs
public import proofs.«01_k».proof.Proof.Gen.InProj
public import proofs.«01_k».proof.Proof.Gen.InProj.Skeleton
public import proofs.«01_k».proof.Proof.Gen.InProj.Loops
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.ConvFfn
public import proofs.«01_k».proof.Proof.Gen.ConvFfn.Skeleton
public import proofs.«01_k».proof.Proof.Gen.ConvFfn.Loops
public import proofs.«01_k».proof.Proof.Gen.ConvFfn.Launch
public import proofs.«01_k».proof.Proof.Gen.ConvFfn.Points
public import proofs.«01_k».proof.Proof.Gen.ConvFfn.Frame
public import proofs.«01_k».proof.Proof.Gen.ConvFfnIdeal
public import proofs.«01_k».proof.Proof.Gen.ConvFfnIdeal.Skeleton
public import proofs.«01_k».proof.Proof.Gen.ConvFfnIdeal.Launch
public import proofs.«01_k».proof.Proof.Gen.ConvFfnIdeal.Points
public import proofs.«01_k».proof.Proof.Gen.ConvFfnIdeal.Frame
public import proofs.«01_k».proof.Proof.Gen.ConvFfnRefIdeal
public import proofs.«01_k».proof.Proof.Gen.ConvFfnRefIdeal.Run
public import proofs.«01_k».proof.Proof.Gen.ConvFfnRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Dilated
public import proofs.«01_k».proof.Proof.Gen.Dilated.Skeleton
public import proofs.«01_k».proof.Proof.Gen.Dilated.Launch
public import proofs.«01_k».proof.Proof.Gen.Dilated.Points
public import proofs.«01_k».proof.Proof.Gen.Dilated.Frame
public import proofs.«01_k».proof.Proof.Gen.DilatedIdeal
public import proofs.«01_k».proof.Proof.Gen.DilatedIdeal.Skeleton
public import proofs.«01_k».proof.Proof.Gen.DilatedIdeal.Launch
public import proofs.«01_k».proof.Proof.Gen.DilatedIdeal.Points
public import proofs.«01_k».proof.Proof.Gen.DilatedIdeal.Frame
public import proofs.«01_k».proof.Proof.Claims
public import proofs.«01_k».proof.Proof.FfnClaims
public import proofs.«01_k».proof.Proof.RopeClaims
public import proofs.«01_k».proof.Proof.DilFrame
public import proofs.«01_k».proof.Proof.DilFrameBits
public import Idealize.ShloMosaic.Adequacy
public import Idealize.ShloMosaic.Init

@[expose] public section

noncomputable section

namespace Cert.Proof

open Idealize.ShloMosaic Idealize.SL.Sem Cert.InProj

theorem claim : Cert.Claim := ⟨Cert.InProj.Gen.facts, Cert.InProjIdeal.Gen.facts, Cert.InProjRefIdeal.Gen.facts, Cert.OutProj.Gen.facts, Cert.OutProjIdeal.Gen.facts, Cert.OutProjRefIdeal.Gen.facts, Cert.ConvFfn.Gen.facts, Cert.ConvFfnIdeal.Gen.facts, Cert.ConvFfnRefIdeal.Gen.facts, Cert.Rope.Gen.facts, Cert.RopeIdeal.Gen.facts, Cert.RopeRefIdeal.Gen.facts, Cert.Dilated.Gen.facts, Cert.DilatedIdeal.Gen.facts,
  in_frame,
  fun m ρ _ => Cert.InProjIdeal.Hand.frame m ρ,
  inRef_frame,
  fun m ρ _ => Cert.OutProj.Gen.frame m ρ,
  fun m ρ _ => Cert.OutProjIdeal.Gen.frame m ρ,
  outRef_frame,
  ffn_frame,
  fun m ρ _ => Cert.ConvFfnIdeal.Hand.frame m ρ,
  ffnRef_frame,
  fun m ρ _ => Cert.Rope.Gen.frame m ρ,
  fun m ρ _ => Cert.RopeIdeal.Gen.frame m ρ,
  ropeRef_frame,
  fun m ρ _ => Cert.Dilated.Hand.frame m ρ,
  fun m ρ _ => Cert.DilatedIdeal.Hand.frame m ρ,
  trivial,
  in_algebraic,
  trivial,
  out_algebraic,
  trivial,
  ffn_algebraic,
  trivial,
  rope_algebraic,
  IdealRules.named_const.statement Cert.DilatedIdeal.κ "mask" .f32 0xF149F2CA#32 ⊥ rfl⟩

end Cert.Proof

end
